-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S_ : Shape := ⟨0, ![]⟩
abbrev S1024x6624 : Shape := ⟨2, ![1024, 6624]⟩
abbrev S207x207 : Shape := ⟨2, ![207, 207]⟩
abbrev S96x32 : Shape := ⟨2, ![96, 32]⟩
abbrev S32 : Shape := ⟨1, ![32]⟩

class Facts : Prop where
  bcast_S_S1024x6624 : S_.BroadcastsInDim S1024x6624 (![] : Fin 0 → Fin S1024x6624.rank)
  reducesTo_S1024x6624_S_d0_1 : S1024x6624.ReducesTo [0, 1] S_
  h_S_ : 0 < S_.numel
  bcast_S_S207x207 : S_.BroadcastsInDim S207x207 (![] : Fin 0 → Fin S207x207.rank)
  reducesTo_S207x207_S_d0_1 : S207x207.ReducesTo [0, 1] S_
  bcast_S_S96x32 : S_.BroadcastsInDim S96x32 (![] : Fin 0 → Fin S96x32.rank)
  reducesTo_S96x32_S_d0_1 : S96x32.ReducesTo [0, 1] S_

variable [Facts]

def fn {F : FTy → Type} [FloatOps F] (main_arg0 : IVec S_ 32) (main_arg1 : FVec F S1024x6624 .f32) (main_arg2 : FVec F S207x207 .f32) (main_arg3 : FVec F S96x32 .f32) (main_arg4 : FVec F S32 .f32) : IVec S_ 1 :=
  let main_v0 : FVec F S1024x6624 .f32 := Host.absf main_arg1
  let main_cst : FVec F S_ .f32 := constant S_ .f32 0x7F800000#32
  let main_v1 : FVec F S1024x6624 .f32 := broadcastInDim S1024x6624 ![] bcast_S_S1024x6624 main_cst
  let main_v2 : IVec S1024x6624 1 := cmpf .olt main_v0 main_v1
  let main_c : IVec S_ 1 := constantI S_ 1 1#1
  let main_v3 : IVec S_ 1 := (fun x v => Host.reduce IntOp.andi x v reducesTo_S1024x6624_S_d0_1 h_S_) main_v2 main_c
  let main_v4 : FVec F S207x207 .f32 := Host.absf main_arg2
  let main_cst_0 : FVec F S_ .f32 := constant S_ .f32 0x7F800000#32
  let main_v5 : FVec F S207x207 .f32 := broadcastInDim S207x207 ![] bcast_S_S207x207 main_cst_0
  let main_v6 : IVec S207x207 1 := cmpf .olt main_v4 main_v5
  let main_c_1 : IVec S_ 1 := constantI S_ 1 1#1
  let main_v7 : IVec S_ 1 := (fun x v => Host.reduce IntOp.andi x v reducesTo_S207x207_S_d0_1 h_S_) main_v6 main_c_1
  let main_v8 : IVec S_ 1 := andi main_v3 main_v7
  let main_v9 : FVec F S96x32 .f32 := Host.absf main_arg3
  let main_cst_2 : FVec F S_ .f32 := constant S_ .f32 0x7F800000#32
  let main_v10 : FVec F S96x32 .f32 := broadcastInDim S96x32 ![] bcast_S_S96x32 main_cst_2
  let main_v11 : IVec S96x32 1 := cmpf .olt main_v9 main_v10
  let main_c_3 : IVec S_ 1 := constantI S_ 1 1#1
  let main_v12 : IVec S_ 1 := (fun x v => Host.reduce IntOp.andi x v reducesTo_S96x32_S_d0_1 h_S_) main_v11 main_c_3
  let main_v13 : IVec S_ 1 := andi main_v8 main_v12
  main_v13
-- ==== Kernel.lean ====
abbrev S_ : Shape := ⟨0, ![]⟩
abbrev S1024x6624 : Shape := ⟨2, ![1024, 6624]⟩
abbrev S207x207 : Shape := ⟨2, ![207, 207]⟩
abbrev S96x32 : Shape := ⟨2, ![96, 32]⟩
abbrev S32 : Shape := ⟨1, ![32]⟩
abbrev S8x8 : Shape := ⟨2, ![8, 8]⟩
abbrev S32x32 : Shape := ⟨2, ![32, 32]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S256x256 : Shape := ⟨2, ![256, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S2x128x6624 : Shape := ⟨3, ![2, 128, 6624]⟩
abbrev S2 : Shape := ⟨1, ![2]⟩
abbrev S1 : Shape := ⟨1, ![1]⟩
abbrev S1x128x6624 : Shape := ⟨3, ![1, 128, 6624]⟩
abbrev S128x6624 : Shape := ⟨2, ![128, 6624]⟩
abbrev S128x207x32 : Shape := ⟨3, ![128, 207, 32]⟩
abbrev S1x207x32 : Shape := ⟨3, ![1, 207, 32]⟩
abbrev S207x32 : Shape := ⟨2, ![207, 32]⟩
abbrev S207x4096 : Shape := ⟨2, ![207, 4096]⟩
abbrev S207x256 : Shape := ⟨2, ![207, 256]⟩

abbrev nBuf : Space → Nat
  | .hbm => 59
  | .vmem => 8
  | .smem => 0
  | _ => 0

abbrev bufTy : (tb : Table) → Fin (tcTables nBuf tb) → BufTy
  | .hbm, ⟨0, _⟩ => ⟨S_, .i32⟩
  | .hbm, ⟨1, _⟩ => ⟨S1024x6624, .f32⟩
  | .hbm, ⟨2, _⟩ => ⟨S207x207, .f32⟩
  | .hbm, ⟨3, _⟩ => ⟨S96x32, .f32⟩
  | .hbm, ⟨4, _⟩ => ⟨S32, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S32x32, .f32⟩
  | .hbm, ⟨13, _⟩ => ⟨S_, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S_, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S8x1x8x1, .f32⟩
  | .hbm, ⟨26, _⟩ => ⟨S1x32x1x32, .f32⟩
  | .hbm, ⟨27, _⟩ => ⟨S8x32x8x32, .f32⟩
  | .hbm, ⟨28, _⟩ => ⟨S8x32x8x32, .f32⟩
  | .hbm, ⟨29, _⟩ => ⟨S8x32x8x32, .f32⟩
  | .hbm, ⟨30, _⟩ => ⟨S256x256, .f32⟩
  | .hbm, ⟨31, _⟩ => ⟨S256x256, .bf16⟩
  | .hbm, ⟨32, _⟩ => ⟨S8x1x8x1, .f32⟩
  | .hbm, ⟨33, _⟩ => ⟨S1x32x1x32, .f32⟩
  | .hbm, ⟨34, _⟩ => ⟨S8x32x8x32, .f32⟩
  | .hbm, ⟨35, _⟩ => ⟨S8x32x8x32, .f32⟩
  | .hbm, ⟨36, _⟩ => ⟨S8x32x8x32, .f32⟩
  | .hbm, ⟨37, _⟩ => ⟨S256x256, .f32⟩
  | .hbm, ⟨38, _⟩ => ⟨S256x256, .bf16⟩
  | .hbm, ⟨39, _⟩ => ⟨S8x1x8x1, .f32⟩
  | .hbm, ⟨40, _⟩ => ⟨S1x32x1x32, .f32⟩
  | .hbm, ⟨41, _⟩ => ⟨S8x32x8x32, .f32⟩
  | .hbm, ⟨42, _⟩ => ⟨S8x32x8x32, .f32⟩
  | .hbm, ⟨43, _⟩ => ⟨S8x32x8x32, .f32⟩
  | .hbm, ⟨44, _⟩ => ⟨S256x256, .f32⟩
  | .hbm, ⟨45, _⟩ => ⟨S256x256, .bf16⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S1x32, .f32⟩
  | .hbm, ⟨50, _⟩ => ⟨S8x32, .f32⟩
  | .hbm, ⟨51, _⟩ => ⟨S256, .f32⟩
  | .hbm, ⟨52, _⟩ => ⟨S1x256, .f32⟩
  | .hbm, ⟨53, _⟩ => ⟨S207x207, .bf16⟩
  | .hbm, ⟨54, _⟩ => ⟨S_, .f32⟩
  | .hbm, ⟨55, _⟩ => ⟨S207x207, .f32⟩
  | .hbm, ⟨56, _⟩ => ⟨S207x207, .f32⟩
  | .hbm, ⟨57, _⟩ => ⟨S207x207, .bf16⟩
  | .hbm, ⟨58, _⟩ => ⟨S1024x6624, .f32⟩
  | .local _ .vmem, ⟨0, _⟩ => ⟨S207x207, .bf16⟩
  | .local _ .vmem, ⟨1, _⟩ => ⟨S207x207, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S1x256, .f32⟩
  | .local _ .vmem, ⟨6, _⟩ => ⟨S2x128x6624, .f32⟩
  | .local _ .vmem, ⟨7, _⟩ => ⟨S2x128x6624, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_169 : BitVec 32 := 0#32
  let c0_i32_170 : BitVec 32 := 0#32
  ![v0.toNat, 0, 0]
def k0_off3 (i : grid0.Coords) : Fin 2 → Nat :=
  let arg0 : BitVec 32 := BitVec.ofNat 32 (i 0).val
  let c128_i32_168 : BitVec 32 := 128#32
  let v836 : BitVec 32 := Scalar.muli arg0 c128_i32_168
  let c0_i32_171 : BitVec 32 := 0#32
  ![v836.toNat, 0]
def k0_cond2 (i : grid0.Coords) : BitVec 1 :=
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 32 := Scalar.extui v7
  let c0_i32_3 : BitVec 32 := 0#32
  let v9 : BitVec 1 := Scalar.cmpi .ne v8 c0_i32_3
  v9

def k0_off4 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off5 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_170 : BitVec 32 := 0#32
  let c0_i32_171 : BitVec 32 := 0#32
  ![v2.toNat, 0, 0]
def k0_off6 (i : grid0.Coords) : Fin 2 → Nat :=
  let arg0 : BitVec 32 := BitVec.ofNat 32 (i 0).val
  let c1_i32_168 : BitVec 32 := 1#32
  let v836 : BitVec 32 := Scalar.addi arg0 c1_i32_168
  let c128_i32_169 : BitVec 32 := 128#32
  let v837 : BitVec 32 := Scalar.muli v836 c128_i32_169
  let c0_i32_172 : BitVec 32 := 0#32
  ![v837.toNat, 0]
def k0_off7 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off9 (i : grid0.Coords) : Fin 2 → Nat :=
  let arg0 : BitVec 32 := BitVec.ofNat 32 (i 0).val
  let c128_i32 : BitVec 32 := 128#32
  let v10 : BitVec 32 := Scalar.muli arg0 c128_i32
  let c0_i32_6 : BitVec 32 := 0#32
  ![v10.toNat, 0]
def k0_cond3 (i : grid0.Coords) : BitVec 1 :=
  let arg0 : BitVec 32 := BitVec.ofNat 32 (i 0).val
  let c2_i32_7 : BitVec 32 := 2#32
  let v16 : BitVec 1 := Scalar.cmpi .sge arg0 c2_i32_7
  let v17 : BitVec 32 := Scalar.extui v16
  let c0_i32_8 : BitVec 32 := 0#32
  let v18 : BitVec 1 := Scalar.cmpi .ne v17 c0_i32_8
  v18

def k0_off10 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off11 (i : grid0.Coords) : Fin 2 → Nat :=
  let arg0 : BitVec 32 := BitVec.ofNat 32 (i 0).val
  let c2_i32_168 : BitVec 32 := 2#32
  let v836 : BitVec 32 := Scalar.subi arg0 c2_i32_168
  let c128_i32_169 : BitVec 32 := 128#32
  let v837 : BitVec 32 := Scalar.muli v836 c128_i32_169
  let c0_i32_170 : BitVec 32 := 0#32
  ![v837.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_171 : BitVec 32 := 0#32
  let c0_i32_172 : BitVec 32 := 0#32
  ![v0.toNat, 0, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v19 : Index := Scalar.indexCast v0
  let c0 : Index := 0#32
  let c0_9 : Index := 0#32
  ![v19.toNat, 0, 0]
def k0_cond4 (i : grid0.Coords) : BitVec 1 :=
  let arg0 : BitVec 32 := BitVec.ofNat 32 (i 0).val
  let c7_i32 : BitVec 32 := 7#32
  let v833 : BitVec 1 := Scalar.cmpi .eq arg0 c7_i32
  let v834 : BitVec 32 := Scalar.extui v833
  let c0_i32_167 : BitVec 32 := 0#32
  let v835 : BitVec 1 := Scalar.cmpi .ne v834 c0_i32_167
  v835

def k0_cond5 (i : grid0.Coords) : BitVec 1 :=
  let arg0 : BitVec 32 := BitVec.ofNat 32 (i 0).val
  let c1_i32_168 : BitVec 32 := 1#32
  let v836 : BitVec 1 := Scalar.cmpi .sge arg0 c1_i32_168
  let v837 : BitVec 32 := Scalar.extui v836
  let c0_i32_169 : BitVec 32 := 0#32
  let v838 : BitVec 1 := Scalar.cmpi .ne v837 c0_i32_169
  v838

def k0_off14 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off15 (i : grid0.Coords) : Fin 2 → Nat :=
  let arg0 : BitVec 32 := BitVec.ofNat 32 (i 0).val
  let c1_i32_174 : BitVec 32 := 1#32
  let v845 : BitVec 32 := Scalar.subi arg0 c1_i32_174
  let c128_i32_175 : BitVec 32 := 128#32
  let v846 : BitVec 32 := Scalar.muli v845 c128_i32_175
  let c0_i32_176 : BitVec 32 := 0#32
  ![v846.toNat, 0]
def k0_off16 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_177 : BitVec 32 := 0#32
  let c0_i32_178 : BitVec 32 := 0#32
  ![v2.toNat, 0, 0]
def k0_off17 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off18 (i : grid0.Coords) : Fin 2 → Nat :=
  let arg0 : BitVec 32 := BitVec.ofNat 32 (i 0).val
  let c128_i32_170 : BitVec 32 := 128#32
  let v839 : BitVec 32 := Scalar.muli arg0 c128_i32_170
  let c0_i32_171 : BitVec 32 := 0#32
  ![v839.toNat, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c0_i32_172 : BitVec 32 := 0#32
  let c0_i32_173 : BitVec 32 := 0#32
  ![v0.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S207x207 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S207x207 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S_ : Shape := ⟨0, ![]⟩
abbrev S1024x6624 : Shape := ⟨2, ![1024, 6624]⟩
abbrev S207x207 : Shape := ⟨2, ![207, 207]⟩
abbrev S96x32 : Shape := ⟨2, ![96, 32]⟩
abbrev S32 : Shape := ⟨1, ![32]⟩
abbrev S1024x207x32 : Shape := ⟨3, ![1024, 207, 32]⟩
abbrev S207x32x1024 : Shape := ⟨3, ![207, 32, 1024]⟩
abbrev S207x32768 : Shape := ⟨2, ![207, 32768]⟩
abbrev S1x207x32768 : Shape := ⟨3, ![1, 207, 32768]⟩
abbrev S3x207x32768 : Shape := ⟨3, ![3, 207, 32768]⟩
abbrev S3x207x32x1024 : Shape := ⟨4, ![3, 207, 32, 1024]⟩
abbrev S1024x207x32x3 : Shape := ⟨4, ![1024, 207, 32, 3]⟩
abbrev S211968x96 : Shape := ⟨2, ![211968, 96]⟩
abbrev S211968x32 : Shape := ⟨2, ![211968, 32]⟩
abbrev S1x32 : Shape := ⟨2, ![1, 32]⟩

abbrev nBuf : Space → Nat
  | .hbm => 29
  | .vmem => 0
  | .smem => 0
  | _ => 0

abbrev bufTy : (tb : Table) → Fin (tcTables nBuf tb) → BufTy
  | .hbm, ⟨0, _⟩ => ⟨S_, .i32⟩
  | .hbm, ⟨1, _⟩ => ⟨S1024x6624, .f32⟩
  | .hbm, ⟨2, _⟩ => ⟨S207x207, .f32⟩
  | .hbm, ⟨3, _⟩ => ⟨S96x32, .f32⟩
  | .hbm, ⟨4, _⟩ => ⟨S32, .f32⟩
  | .hbm, ⟨5, _⟩ => ⟨S1024x207x32, .f32⟩
  | .hbm, ⟨6, _⟩ => ⟨S207x32x1024, .f32⟩
  | .hbm, ⟨7, _⟩ => ⟨S207x32768, .f32⟩
  | .hbm, ⟨8, _⟩ => ⟨S207x32768, .f32⟩
  | .hbm, ⟨9, _⟩ => ⟨S207x32768, .f32⟩
  | .hbm, ⟨10, _⟩ => ⟨S_, .f32⟩
  | .hbm, ⟨11, _⟩ => ⟨S207x32768, .f32⟩
  | .hbm, ⟨12, _⟩ => ⟨S207x32768, .f32⟩
  | .hbm, ⟨13, _⟩ => ⟨S207x32768, .f32⟩
  | .hbm, ⟨14, _⟩ => ⟨S1x207x32768, .f32⟩
  | .hbm, ⟨15, _⟩ => ⟨S1x207x32768, .f32⟩
  | .hbm, ⟨16, _⟩ => ⟨S1x207x32768, .f32⟩
  | .hbm, ⟨17, _⟩ => ⟨S3x207x32768, .f32⟩
  | .hbm, ⟨18, _⟩ => ⟨S3x207x32x1024, .f32⟩
  | .hbm, ⟨19, _⟩ => ⟨S1024x207x32x3, .f32⟩
  | .hbm, ⟨20, _⟩ => ⟨S211968x96, .f32⟩
  | .hbm, ⟨21, _⟩ => ⟨S211968x32, .f32⟩
  | .hbm, ⟨22, _⟩ => ⟨S1x32, .f32⟩
  | .hbm, ⟨23, _⟩ => ⟨S211968x32, .f32⟩
  | .hbm, ⟨24, _⟩ => ⟨S211968x32, .f32⟩
  | .hbm, ⟨25, _⟩ => ⟨S1024x6624, .f32⟩
  | .hbm, ⟨26, _⟩ => ⟨S_, .f32⟩
  | .hbm, ⟨27, _⟩ => ⟨S1024x6624, .f32⟩
  | .hbm, ⟨28, _⟩ => ⟨S1024x6624, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

noncomputable section

namespace Cert.KernelIdeal.Val

open Idealize.ShloMosaic
open Cert.KernelIdeal Cert.KernelIdeal.Gen

variable {F : FTy → Type} [FloatOps F]

/-- Row `i` of a block of 128 rows is a slice of it. -/
theorem slRow (i : Fin 128) : S128x207x32.Slices ![i.val, 0, 0] S1x207x32 := by
  refine ⟨rfl, fun a => ?_⟩
  have := i.isLt
  match a with
  | ⟨0, _⟩ => show i.val + 1 ≤ 128; omega
  | ⟨1, _⟩ => show 0 + 207 ≤ 207; omega
  | ⟨2, _⟩ => show 0 + 32 ≤ 32; omega

/-- The 32 columns from `32 i` are a slice of the wide tile. -/
theorem slOut (i : Fin 128) : S207x4096.Slices ![0, 32 * i.val] S207x32 := by
  refine ⟨rfl, fun a => ?_⟩
  have := i.isLt
  match a with
  | ⟨0, _⟩ => show 0 + 207 ≤ 207; omega
  | ⟨1, _⟩ => show 32 * i.val + 32 ≤ 4096; omega

/-- The 256 columns from `256 j` are a slice of the wide tile. -/
theorem slChunk (j : Fin 16) : S207x4096.Slices ![0, 256 * j.val] S207x256 := by
  refine ⟨rfl, fun a => ?_⟩
  have := j.isLt
  match a with
  | ⟨0, _⟩ => show 0 + 207 ≤ 207; omega
  | ⟨1, _⟩ => show 256 * j.val + 256 ≤ 4096; omega

/-- Pieces of one shape lie end to end along an axis, when their number times their size is the whole's. -/
theorem catFam {α : Type} {t s₁ : Shape} (a : Fin t.rank) {N : Nat} (f : Fin N → (s₁.Idx → α)) (hN : 2 ≤ N)
    (hr : s₁.rank = t.rank) (hb : ∀ b : Fin t.rank, b ≠ a → s₁.size (b.cast hr.symm) = t.size b)
    (hs : N * s₁.size (a.cast hr.symm) = t.size a) :
    Shape.Concatenates ((List.ofFn fun n : Fin N => (⟨s₁, f n⟩ : (s : Shape) × (s.Idx → α))).map (·.1)) t a := by
  have e : ((List.ofFn fun n : Fin N => (⟨s₁, f n⟩ : (s : Shape) × (s.Idx → α))).map (·.1)) = List.replicate N s₁ := by
    rw [List.map_ofFn]; exact List.ofFn_const N s₁
  rw [e]
  refine ⟨by simpa using hN, fun s h => ?_, ?_⟩
  · rw [List.eq_of_mem_replicate h]; exact ⟨hr, hb⟩
  · rw [List.map_replicate, List.sum_replicate, dif_pos hr, smul_eq_mul]; exact hs

/-- Row `i` of the block, as a 207 by 32 tile. -/
def row (v : Vec F S1x128x6624 .f32) (i : Fin 128) : FVec F S207x32 .bf16 :=
  shapeCast S207x32 (extractStridedSlice S1x207x32 ![i.val, 0, 0] (k0_pay1 v) (slRow i)) shapeCasts_S1x207x32_S207x32

/-- The block with its rows laid side by side: 207 by (128 · 32). -/
def A0 (v : Vec F S1x128x6624 .f32) : FVec F S207x4096 .bf16 :=
  concatenate S207x4096 1 (List.ofFn fun i : Fin 128 => ⟨S207x32, row v i⟩)
    (catFam 1 _ (by decide) rfl (by decide) rfl)

/-- A 207 by 207 matrix times a wide tile, rounded. -/
def hop (l : FVec F S207x207 .bf16) (a : FVec F S207x4096 .bf16) : FVec F S207x4096 .bf16 :=
  truncf .bf16 (matmul dot_S207x207_S207x4096_S207x4096_1_0_0_1_n_n none
    (shapeCast S207x207 l shapeCasts_S207x207_S207x207) a (constant S207x4096 .f32 0x00000000#32)) bitsLt_bf16_f32

/-- Chunk `j` of a wide tile times a 256 by 256 matrix. -/
def term (a : FVec F S207x4096 .bf16) (w : FVec F S256x256 .bf16) (j : Fin 16) : FVec F S207x256 .f32 :=
  matmul dot_S207x256_S256x256_S207x256_1_0_0_1_n_n none
    (extractStridedSlice S207x256 ![0, 256 * j.val] a (slChunk j))
    (shapeCast S256x256 w shapeCasts_S256x256_S256x256) (constant S207x256 .f32 0x00000000#32)

/-- Chunk `j` of the output tile: the three products and the bias row, rounded. -/
def chunk (a0 a1 a2 : FVec F S207x4096 .bf16) (w0 w1 w2 : FVec F S256x256 .bf16) (b : FVec F S1x256 .f32)
    (j : Fin 16) : FVec F S207x256 .bf16 :=
  truncf .bf16 (addf (addf (addf (term a0 w0 j) (term a1 w1 j)) (term a2 w2 j))
    (broadcastTo S207x256 (shapeCast S1x256 b shapeCasts_S1x256_S1x256) broadcasts_S1x256_S207x256)) bitsLt_bf16_f32

/-- The output tile: its 16 chunks side by side. -/
def OT (a0 a1 a2 : FVec F S207x4096 .bf16) (w0 w1 w2 : FVec F S256x256 .bf16) (b : FVec F S1x256 .f32) :
    FVec F S207x4096 .bf16 :=
  concatenate S207x4096 1 (List.ofFn fun j : Fin 16 => ⟨S207x256, chunk a0 a1 a2 w0 w1 w2 b j⟩)
    (catFam 1 _ (by decide) rfl (by decide) rfl)

/-- The output tile's 128 groups of 32 columns, stacked. -/
def stacked (o : FVec F S207x4096 .bf16) : FVec F S128x207x32 .bf16 :=
  concatenate S128x207x32 0 (List.ofFn fun i : Fin 128 => ⟨S1x207x32,
      shapeCast S1x207x32 (extractStridedSlice S207x32 ![0, 32 * i.val] o (slOut i)) shapeCasts_S207x32_S1x207x32⟩)
    (catFam 0 _ (by decide) rfl (by decide) rfl)

/-- What one grid step writes: the whole block's result from the six windows and the block read. -/
def PAY (l l2 : FVec F S207x207 .bf16) (w0 w1 w2 : FVec F S256x256 .bf16) (b : FVec F S1x256 .f32)
    (v : Vec F S1x128x6624 .f32) : FVec F S1x128x6624 .f32 :=
  shapeCast S1x128x6624 (extf .f32 (shapeCast S128x6624
    (stacked (OT (A0 v) (hop l (A0 v)) (hop l2 (hop l (A0 v))) w0 w1 w2 b))
    shapeCasts_S128x207x32_S128x6624) bitsLt_bf16_f32) shapeCasts_S128x6624_S1x128x6624

end Cert.KernelIdeal.Val

end
-- ==== Proof.RingVal.lean ====
module

public import proofs.«01_k».proof.Proof.Gen.KernelIdeal.Frame.RunD
public import proofs.«01_k».proof.Proof.Body
public import Idealize.ShloMosaic.Lib.Pipeline.Value

@[expose] public section

set_option maxRecDepth 16384

noncomputable section

namespace Cert.KernelIdeal.Val

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- The rows of the array read that step `t` works on, as the load in the body's shape. -/
def blk (c : Dev nD) (t : Fin cfg0.N) (fh0 : HbBuf0 (F := F) c hbM0_0) : Vec F S1x128x6624 .f32 :=
  shapeCast S1x128x6624 ((srcB0_0 (Ring.bk 8 t.val)).view.read (Elt F) fh0) shapeCasts_S128x6624_S1x128x6624

/-- The rows of the result step `t` writes. -/
def outB (l l2 : FVec F S207x207 .bf16) (w0 w1 w2 : FVec F S256x256 .bf16) (b : FVec F S1x256 .f32)
    (v : Vec F S1x128x6624 .f32) : FVec F S128x6624 .f32 :=
  shapeCast S128x6624 (PAY l l2 w0 w1 w2 b v) shapeCasts_S1x128x6624_S128x6624

/-- What a view reads back of one write over the whole of it is the value written. -/
theorem read_writes_all {sig : RefSig} {κ : Kind} {sp : Space} {s : Shape} {e : EltTy} (v : View sig κ sp s e)
    (Val : EltTy → Type) (f : v.ty.Contents Val) (w : s.Idx → Val e) :
    v.read Val (v.writes Val f [⟨Rect.whole s, w⟩]) = w := by
  rw [← View.write_univ_eq_writes_whole, View.read_write_univ]

/-- The load of a whole window held at `x` is `x`. -/
theorem load_whole {sp : Space} {s : Shape} {e : EltTy} (m : Memref sig .tc sp s e) (hm : m.IsWhole) (x : s.Idx → Elt F e)
    (off : Fin s.rank → ℕ) (ho : off = fun _ => 0) (inb : ∀ a, off a + s.size a ≤ s.size a) :
    View.readAt (Elt F) m.view (Rect.unit off s.size inb).toLoadRect (hm.unread x) = x := by
  rw [View.readAt_eq_ld, hm.read_unread]
  exact View.ld_unit_zero ho inb x

/-- The load at step `t` of a slot on which the step's rows have landed is those rows. -/
theorem load_slot (c : Dev nD) (t : Fin cfg0.N) (off : Fin 3 → ℕ) (ho : off = ![(Ring.sl 2 t.val).val, 0, 0])
    (inb : ∀ a, off a + S1x128x6624.size a ≤ S2x128x6624.size a)
    (f : HbBuf0 (F := F) c (rslot0_0 (Ring.sl 2 t.val))) (r : S128x6624.Idx → Elt F .f32) :
    View.readAt (Elt F) scM0_0.view (Rect.unit (s := S2x128x6624) off S1x128x6624.size inb).toLoadRect
      ((rslot0_0 (Ring.sl 2 t.val)).view.writes (Elt F) f [⟨Rect.whole S128x6624, r⟩])
      = shapeCast S1x128x6624 r shapeCasts_S128x6624_S1x128x6624 := by
  subst ho
  funext i
  obtain ⟨a, rfl⟩ := (Shape.reshapeEquiv (s := S1x128x6624) (s' := S128x6624) shapeCasts_S1x128x6624_S128x6624).surjective i
  have h := congrFun (read_writes_all (rslot0_0 (Ring.sl 2 t.val)).view (Elt F) f r) a
  refine (Eq.trans ?_ h).trans ?_
  · rfl
  · rw [shapeCast_apply _ _ _ a]
    exact (Shape.rowMajor_reshapeEquiv _ a).symm

/-- What a squeezed memref reads is what the memref reads, at the squeezed index. -/
theorem read_squeeze {sp : Space} {s s' : Shape} {e : EltTy} (m : Memref sig .tc sp s e) (hs : s.Squeezes s')
    (f : m.view.ty.Contents (Elt F)) (a : s'.Idx) :
    View.read (Elt F) (m.squeeze s' hs).view f a = View.read (Elt F) m.view f (Shape.reshapeEquiv hs.numel_eq a) := rfl

/-- What a tile of the staging buffer reads back of a store over the whole of it is the value stored. -/
theorem read_tile (c : Dev nD) (t : Fin cfg0.N) (off : Fin 3 → ℕ) (ho : off = ![(Ring.sl 2 t.val).val, 0, 0])
    (inb : ∀ a, off a + S1x128x6624.size a ≤ S2x128x6624.size a)
    (e : HbBuf0 (F := F) c (wtile0_1 (Ring.sl 2 t.val) 0)) (p : S1x128x6624.Idx → Elt F .f32) :
    View.read (Elt F) (wtile0_1 (Ring.sl 2 t.val) 0).view
      (View.write (Elt F) (scM0_1.access (Rect.unit (s := S2x128x6624) off S1x128x6624.size inb)) e p Finset.univ)
      = shapeCast S128x6624 p shapeCasts_S1x128x6624_S128x6624 := by
  subst ho
  funext a
  unfold wtile0_1
  refine (read_squeeze (F := F) _ _ _ a).trans ?_
  exact congrFun (View.read_write_univ (Val := Elt F)
    (v := scM0_1.access (Rect.unit (s := S2x128x6624) ![(Ring.sl 2 t.val).val, 0, 0] S1x128x6624.size inb)) e p)
    (Shape.reshapeEquiv (s := S1x128x6624) (s' := S128x6624) shapeCasts_S1x128x6624_S128x6624 a)

/-- Contents written over the whole of a view with what `G` reads there agree with `G` on the view. -/
theorem writes_all_eq {sig : RefSig} {κ : Kind} {sp : Space} {s : Shape} {e : EltTy} (v : View sig κ sp s e)
    (Val : EltTy → Type) (f G : v.ty.Contents Val) (w : s.Idx → Val e) (h : v.read Val G = w) :
    ∀ i ∈ v.set, v.writes Val f [⟨Rect.whole s, w⟩] i = G i := by
  intro i hi
  obtain ⟨a, -, rfl⟩ := Finset.mem_map.mp hi
  have e := congrFun ((read_writes_all v Val f w).trans h.symm) a
  rw [View.read_apply, View.read_apply] at e
  exact (cast_inj _).1 e

/-- A piece of the result on which the rows of `G` have been written holds `G`. -/
theorem piece_eq (c : Dev nD) (u : Fin 8) (f G : HbBuf0 (F := F) c (wpiece0_1 u 0)) (w : S128x6624.Idx → Elt F .f32)
    (h : (wpiece0_1 u 0).view.read (Elt F) G = w) :
    wpieceP0_1 c u 0 ((wpiece0_1 u 0).view.writes (Elt F) f [⟨Rect.whole S128x6624, w⟩]) = wpieceP0_1 c u 0 G := by
  exact pointsTo_congr (writes_all_eq (wpiece0_1 u 0).view (Elt F) f G w h)

/-- Piece `u` of the result, holding the rows of `G`. -/
def pieceG (c : Dev nD) (G : Buf (Elt F) ((c : Thread nD τ).loc main_v32)) (u : Fin 8) : sProp 𝕄 := wpieceP0_1 c u 0 G

/-- The flight of step `u`'s copy from tile `g`, which delivers the piece holding `G`. -/
def flightG (c : Dev nD) (G : Buf (Elt F) ((c : Thread nD τ).loc main_v32)) (g : Fin 2) (u : Fin 8) : sProp 𝕄 :=
  iprop(∃ e, Transfers.Flight countersEmb (c : Thread nD τ) (wcellR0_1 g 0) default
    ((wpiece0_1 u 0).view.amount (wcellR0_1 g 0)) iprop(pieceG c G u ∗ wtileP0_1 c g 0 e))

/-- A flight delivering a piece on which the rows of `G` have been written delivers the piece holding `G`. -/
theorem flight_val (c : Dev nD) (G : Buf (Elt F) ((c : Thread nD τ).loc main_v32)) (g : Fin 2) (u : Fin 8) (N : ℕ)
    (f : HbBuf0 (F := F) c (wpiece0_1 u 0)) (e : HbBuf0 (F := F) c (wtile0_1 g 0)) (w : (Rect.whole S128x6624).shape.Idx → Elt F .f32)
    (h : (wpiece0_1 u 0).view.read (Elt F) G = w) :
    Transfers.Flight countersEmb (c : Thread nD τ) (wcellR0_1 g 0) default N
        iprop(wpieceP0_1 c u 0 ((wpiece0_1 u 0).view.writes (Elt F) f [⟨Rect.whole S128x6624, w⟩]) ∗ wtileP0_1 c g 0 e)
      ⊢ (iprop(∃ e, Transfers.Flight countersEmb (c : Thread nD τ) (wcellR0_1 g 0) default N
          iprop(pieceG c G u ∗ wtileP0_1 c g 0 e)) : sProp 𝕄) := by
  rw [piece_eq c u f G w h]
  iintro H
  iexists e
  iexact H

end Cert.KernelIdeal.Val

end
-- ==== Proof.ValA.lean ====
module

public import proofs.«01_k».proof.Proof.RingVal

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem valRunA (c : Dev nD) (t : Fin cfg0.N) (arg2 : Memref sig .tc .vmem S207x207 .bf16) (harg2 : arg2.IsWhole) (arg3 : Memref sig .tc .vmem S207x207 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (hc0 : cond0_0 (grid0.coords t)) (hc1 : cond0_1 (grid0.coords t)) (hc2 : ¬cond0_2 (grid0.coords t)) (hc3 : ¬cond0_3 (grid0.coords t))
    (x0 : Vec F S207x207 .bf16) (x1 : Vec F S207x207 .bf16) (x2 : Vec F S256x256 .bf16) (x3 : Vec F S256x256 .bf16) (x4 : Vec F S256x256 .bf16) (x5 : Vec F S1x256 .f32) (fh0 : HbBuf0 (F := F) c hbM0_0)
    (G : Buf (Elt F) ((c : Thread nD τ).loc main_v32))
    (hG : (wpiece0_1 (Ring.bk 8 t.val) 0).view.read (Elt F) G = outB x0 x1 x2 x3 x4 x5 (blk c t fh0)) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.free (cellP0_0 c) (slotW0_0 c fh0) (Ring.sl 2 t.val) ∗ Ring.free (cellP0_0 c) (slotW0_0 c fh0) (Ring.sl 2 (t.val + 1)) ∗ (∃ f, wpieceP0_1 c (Ring.bk 8 t.val) 0 f) ∗ wcellP0_1 c (Ring.sl 2 t.val) 0 ∗ (∃ e, wtileP0_1 c (Ring.sl 2 t.val) 0 e) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ flightG c G (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) (Memref.whole main_arg1) (Memref.isWhole_whole _) arg2 harg2 arg3 harg3 arg4 harg4 arg5 harg5 arg6 harg6 arg7 harg7 (Memref.whole main_v32) (Memref.isWhole_whole _) scM0_0 (Memref.isWhole_whole _) scM0_1 (Memref.isWhole_whole _) cc0_scratch2 cc0_scratch3) K := by
    intro W K
    haveI : Fact (cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨Hc0_0_0, ⟨%fs0_0_0, Hs0_0_0, Hw0_0_0⟩⟩, ⟨Hc0_0_1, ⟨%fs0_0_1, Hs0_0_1, Hw0_0_1⟩⟩, ⟨%fp0_1_0, Hp0_1_0⟩, Hq0_1_0, ⟨%et0_1_0, Ht0_1_0⟩, HW, Hk⟩
    ihave Hsp0_0_0 := (src0_0_split c fh0 (Ring.sl 2 t.val) (Ring.bk 8 t.val)).1 $$ Hw0_0_0
    icases Hsp0_0_0 with ⟨Hh0_0_0, Hr0_0_0⟩
    ihave Hsp0_0_1 := (src0_0_split c fh0 (Ring.sl 2 (t.val + 1)) (Ring.bk 8 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    have hw : valRunA.sl.dma54 c t arg2 harg2 arg3 harg3 arg4 harg4 arg5 harg5 arg6 harg6 arg7 harg7 x0 x1 x2 x3 x4 x5 fh0 et0_1_0 = outB x0 x1 x2 x3 x4 x5 (blk c t fh0) := by
      have hv : valRunA.sl.v20 c t fh0 = blk c t fh0 := load_slot c t _ (wcoff0_1_10 t) _ _ _
      refine (read_tile c t _ (wcoff0_1_10 t) _ et0_1_0 _).trans ?_
      have e0 : View.readAt (Elt F) arg2.view (Rect.unit (s := S207x207) ![0, 0] S207x207.size (by decide)).toLoadRect (harg2.unread x0) = x0 := load_whole arg2 harg2 x0 _ (by decide) _
      have e1 : View.readAt (Elt F) arg3.view (Rect.unit (s := S207x207) ![0, 0] S207x207.size (by decide)).toLoadRect (harg3.unread x1) = x1 := load_whole arg3 harg3 x1 _ (by decide) _
      have e2 : View.readAt (Elt F) arg4.view (Rect.unit (s := S256x256) ![0, 0] S256x256.size (by decide)).toLoadRect (harg4.unread x2) = x2 := load_whole arg4 harg4 x2 _ (by decide) _
      have e3 : View.readAt (Elt F) arg5.view (Rect.unit (s := S256x256) ![0, 0] S256x256.size (by decide)).toLoadRect (harg5.unread x3) = x3 := load_whole arg5 harg5 x3 _ (by decide) _
      have e4 : View.readAt (Elt F) arg6.view (Rect.unit (s := S256x256) ![0, 0] S256x256.size (by decide)).toLoadRect (harg6.unread x4) = x4 := load_whole arg6 harg6 x4 _ (by decide) _
      have e5 : View.readAt (Elt F) arg7.view (Rect.unit (s := S1x256) ![0, 0] S1x256.size (by decide)).toLoadRect (harg7.unread x5) = x5 := load_whole arg7 harg7 x5 _ (by decide) _
      refine Eq.trans ?_ (congr (congr (congr (congr (congr (congr (congrArg outB e0) e1) e2) e3) e4) e5) hv)
      rfl
    try unfold flightG
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 8 t.val)).2; isplitl [Hh0_0_0]; · iexact Hh0_0_0
      iexact Hr0_0_0
    isplitl [Hq0_1_0]
    · iapply (flight_val c G (Ring.sl 2 t.val) (Ring.bk 8 t.val) 106496 fp0_1_0 (valRunA.sl.Ht0_1_0_w1 c t arg2 harg2 arg3 harg3 arg4 harg4 arg5 harg5 arg6 harg6 arg7 harg7 x0 x1 x2 x3 x4 x5 fh0 et0_1_0) (valRunA.sl.dma54 c t arg2 harg2 arg3 harg3 arg4 harg4 arg5 harg5 arg6 harg6 arg7 harg7 x0 x1 x2 x3 x4 x5 fh0 et0_1_0) (hG.trans hw.symm))
      iexact Hq0_1_0
    iexists _; iexact HW

end Cert.KernelIdeal.Val

end
-- ==== Proof.ValB.lean ====
module

public import proofs.«01_k».proof.Proof.RingVal

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem valRunB (c : Dev nD) (t : Fin cfg0.N) (arg2 : Memref sig .tc .vmem S207x207 .bf16) (harg2 : arg2.IsWhole) (arg3 : Memref sig .tc .vmem S207x207 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (hc0 : ¬cond0_0 (grid0.coords t)) (hc1 : cond0_1 (grid0.coords t)) (hc2 : ¬cond0_2 (grid0.coords t)) (hc3 : ¬cond0_3 (grid0.coords t))
    (x0 : Vec F S207x207 .bf16) (x1 : Vec F S207x207 .bf16) (x2 : Vec F S256x256 .bf16) (x3 : Vec F S256x256 .bf16) (x4 : Vec F S256x256 .bf16) (x5 : Vec F S1x256 .f32) (fh0 : HbBuf0 (F := F) c hbM0_0)
    (G : Buf (Elt F) ((c : Thread nD τ).loc main_v32))
    (hG : (wpiece0_1 (Ring.bk 8 t.val) 0).view.read (Elt F) G = outB x0 x1 x2 x3 x4 x5 (blk c t fh0)) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ (∃ f, wpieceP0_1 c (Ring.bk 8 t.val) 0 f) ∗ wcellP0_1 c (Ring.sl 2 t.val) 0 ∗ (∃ e, wtileP0_1 c (Ring.sl 2 t.val) 0 e) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ flightG c G (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) (Memref.whole main_arg1) (Memref.isWhole_whole _) arg2 harg2 arg3 harg3 arg4 harg4 arg5 harg5 arg6 harg6 arg7 harg7 (Memref.whole main_v32) (Memref.isWhole_whole _) scM0_0 (Memref.isWhole_whole _) scM0_1 (Memref.isWhole_whole _) cc0_scratch2 cc0_scratch3) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept flightG
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ff0_0, Hf0_0, Hrf0_0⟩, ⟨Hc0_0_1, ⟨%fs0_0_1, Hs0_0_1, Hw0_0_1⟩⟩, ⟨%fp0_1_0, Hp0_1_0⟩, Hq0_1_0, ⟨%et0_1_0, Ht0_1_0⟩, HW, Hk⟩
    ihave Hsp0_0_1 := (src0_0_split c fh0 (Ring.sl 2 (t.val + 1)) (Ring.bk 8 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    have hw : valRunB.sl.dma54 c t arg2 harg2 arg3 harg3 arg4 harg4 arg5 harg5 arg6 harg6 arg7 harg7 x0 x1 x2 x3 x4 x5 fh0 et0_1_0 = outB x0 x1 x2 x3 x4 x5 (blk c t fh0) := by
      have hv : valRunB.sl.v20 c t fh0 = blk c t fh0 := load_slot c t _ (wcoff0_1_10 t) _ _ _
      refine (read_tile c t _ (wcoff0_1_10 t) _ et0_1_0 _).trans ?_
      have e0 : View.readAt (Elt F) arg2.view (Rect.unit (s := S207x207) ![0, 0] S207x207.size (by decide)).toLoadRect (harg2.unread x0) = x0 := load_whole arg2 harg2 x0 _ (by decide) _
      have e1 : View.readAt (Elt F) arg3.view (Rect.unit (s := S207x207) ![0, 0] S207x207.size (by decide)).toLoadRect (harg3.unread x1) = x1 := load_whole arg3 harg3 x1 _ (by decide) _
      have e2 : View.readAt (Elt F) arg4.view (Rect.unit (s := S256x256) ![0, 0] S256x256.size (by decide)).toLoadRect (harg4.unread x2) = x2 := load_whole arg4 harg4 x2 _ (by decide) _
      have e3 : View.readAt (Elt F) arg5.view (Rect.unit (s := S256x256) ![0, 0] S256x256.size (by decide)).toLoadRect (harg5.unread x3) = x3 := load_whole arg5 harg5 x3 _ (by decide) _
      have e4 : View.readAt (Elt F) arg6.view (Rect.unit (s := S256x256) ![0, 0] S256x256.size (by decide)).toLoadRect (harg6.unread x4) = x4 := load_whole arg6 harg6 x4 _ (by decide) _
      have e5 : View.readAt (Elt F) arg7.view (Rect.unit (s := S1x256) ![0, 0] S1x256.size (by decide)).toLoadRect (harg7.unread x5) = x5 := load_whole arg7 harg7 x5 _ (by decide) _
      refine Eq.trans ?_ (congr (congr (congr (congr (congr (congr (congrArg outB e0) e1) e2) e3) e4) e5) hv)
      rfl
    try unfold flightG
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hq0_1_0]
    · iapply (flight_val c G (Ring.sl 2 t.val) (Ring.bk 8 t.val) 106496 fp0_1_0 (valRunB.sl.Ht0_1_0_w1 c t arg2 harg2 arg3 harg3 arg4 harg4 arg5 harg5 arg6 harg6 arg7 harg7 x0 x1 x2 x3 x4 x5 fh0 et0_1_0) (valRunB.sl.dma54 c t arg2 harg2 arg3 harg3 arg4 harg4 arg5 harg5 arg6 harg6 arg7 harg7 x0 x1 x2 x3 x4 x5 fh0 et0_1_0) (hG.trans hw.symm))
      iexact Hq0_1_0
    iexists _; iexact HW

end Cert.KernelIdeal.Val

end
-- ==== Proof.ValC.lean ====
module

public import proofs.«01_k».proof.Proof.RingVal

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem valRunC (c : Dev nD) (t : Fin cfg0.N) (arg2 : Memref sig .tc .vmem S207x207 .bf16) (harg2 : arg2.IsWhole) (arg3 : Memref sig .tc .vmem S207x207 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (hc0 : ¬cond0_0 (grid0.coords t)) (hc1 : cond0_1 (grid0.coords t)) (hc2 : cond0_2 (grid0.coords t)) (hc3 : ¬cond0_3 (grid0.coords t))
    (x0 : Vec F S207x207 .bf16) (x1 : Vec F S207x207 .bf16) (x2 : Vec F S256x256 .bf16) (x3 : Vec F S256x256 .bf16) (x4 : Vec F S256x256 .bf16) (x5 : Vec F S1x256 .f32) (fh0 : HbBuf0 (F := F) c hbM0_0)
    (G : Buf (Elt F) ((c : Thread nD τ).loc main_v32))
    (hG : (wpiece0_1 (Ring.bk 8 t.val) 0).view.read (Elt F) G = outB x0 x1 x2 x3 x4 x5 (blk c t fh0)) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ (∃ f, wpieceP0_1 c (Ring.bk 8 t.val) 0 f) ∗ flightG c G (Ring.sl 2 t.val) (Ring.bk 8 (t.val - 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ pieceG c G (Ring.bk 8 (t.val - 2)) ∗ flightG c G (Ring.sl 2 t.val) (Ring.bk 8 t.val) ∗ (∃ W', owes (c : Thread nD τ) 0 W')) -∗ K ⟨⟩))
          ⊢ wp frame (wpE (defs₀ (F := F)) Variants.none c none) Set.univ (cc0__body (grid0.coords t) (Memref.whole main_arg1) (Memref.isWhole_whole _) arg2 harg2 arg3 harg3 arg4 harg4 arg5 harg5 arg6 harg6 arg7 harg7 (Memref.whole main_v32) (Memref.isWhole_whole _) scM0_0 (Memref.isWhole_whole _) scM0_1 (Memref.isWhole_whole _) cc0_scratch2 cc0_scratch3) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept flightG
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ff0_0, Hf0_0, Hrf0_0⟩, ⟨Hc0_0_1, ⟨%fs0_0_1, Hs0_0_1, Hw0_0_1⟩⟩, ⟨%fp0_1_0, Hp0_1_0⟩, ⟨%fe0_1_0, HF0_1_0⟩, HW, Hk⟩
    ihave Hsp0_0_1 := (src0_0_split c fh0 (Ring.sl 2 (t.val + 1)) (Ring.bk 8 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    have hw : valRunC.sl.dma54 c t arg2 harg2 arg3 harg3 arg4 harg4 arg5 harg5 arg6 harg6 arg7 harg7 x0 x1 x2 x3 x4 x5 fh0 fe0_1_0 = outB x0 x1 x2 x3 x4 x5 (blk c t fh0) := by
      have hv : valRunC.sl.v20 c t fh0 = blk c t fh0 := load_slot c t _ (wcoff0_1_10 t) _ _ _
      refine (read_tile c t _ (wcoff0_1_10 t) _ fe0_1_0 _).trans ?_
      have e0 : View.readAt (Elt F) arg2.view (Rect.unit (s := S207x207) ![0, 0] S207x207.size (by decide)).toLoadRect (harg2.unread x0) = x0 := load_whole arg2 harg2 x0 _ (by decide) _
      have e1 : View.readAt (Elt F) arg3.view (Rect.unit (s := S207x207) ![0, 0] S207x207.size (by decide)).toLoadRect (harg3.unread x1) = x1 := load_whole arg3 harg3 x1 _ (by decide) _
      have e2 : View.readAt (Elt F) arg4.view (Rect.unit (s := S256x256) ![0, 0] S256x256.size (by decide)).toLoadRect (harg4.unread x2) = x2 := load_whole arg4 harg4 x2 _ (by decide) _
      have e3 : View.readAt (Elt F) arg5.view (Rect.unit (s := S256x256) ![0, 0] S256x256.size (by decide)).toLoadRect (harg5.unread x3) = x3 := load_whole arg5 harg5 x3 _ (by decide) _
      have e4 : View.readAt (Elt F) arg6.view (Rect.unit (s := S256x256) ![0, 0] S256x256.size (by decide)).toLoadRect (harg6.unread x4) = x4 := load_whole arg6 harg6 x4 _ (by decide) _
      have e5 : View.readAt (Elt F) arg7.view (Rect.unit (s := S1x256) ![0, 0] S1x256.size (by decide)).toLoadRect (harg7.unread x5) = x5 := load_whole arg7 harg7 x5 _ (by decide) _
      refine Eq.trans ?_ (congr (congr (congr (congr (congr (congr (congrArg outB e0) e1) e2) e3) e4) e5) hv)
      rfl
    try unfold flightG
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [HF0_1_0_dst]; · iexact HF0_1_0_dst
    isplitl [HF0_1_0]
    · iapply (flight_val c G (Ring.sl 2 t.val) (Ring.bk 8 t.val) 106496 fp0_1_0 (valRunC.sl.HF0_1_0_src_w1 c t arg2 harg2 arg3 harg3 arg4 harg4 arg5 harg5 arg6 harg6 arg7 harg7 x0 x1 x2 x3 x4 x5 fh0 fe0_1_0) (valRunC.sl.dma54 c t arg2 harg2 arg3 harg3 arg4 harg4 arg5 harg5 arg6 harg6 arg7 harg7 x0 x1 x2 x3 x4 x5 fh0 fe0_1_0) (hG.trans hw.symm))
      iexact HF0_1_0
    iexists _; iexact HW

end Cert.KernelIdeal.Val

end
-- ==== Proof.ValD.lean ====
module

public import proofs.«01_k».proof.Proof.RingVal

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem valRunD (c : Dev nD) (t : Fin cfg0.N) (arg2 : Memref sig .tc .vmem S207x207 .bf16) (harg2 : arg2.IsWhole) (arg3 : Memref sig .tc .vmem S207x207 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (hc0 : ¬cond0_0 (grid0.coords t)) (hc1 : ¬cond0_1 (grid0.coords t)) (hc2 : cond0_2 (grid0.coords t)) (hc3 : cond0_3 (grid0.coords t)) (hc4 : cond0_4 (grid0.coords t))
    (x0 : Vec F S207x207 .bf16) (x1 : Vec F S207x207 .bf16) (x2 : Vec F S256x256 .bf16) (x3 : Vec F S256x256 .bf16) (x4 : Vec F S256x256 .bf16) (x5 : Vec F S1x256 .f32) (fh0 : HbBuf0 (F := F) c hbM0_0)
    (G : Buf (Elt F) ((c : Thread nD τ).loc main_v32))
    (hG : (wpiece0_1 (Ring.bk 8 t.val) 0).view.read (Elt F) G = outB x0 x1 x2 x3 x4 x5 (blk c t fh0)) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.inflight (flightW0_0 c fh0) (Ring.sl 2 t.val) (Ring.bk 8 t.val) ∗ (∃ f, wpieceP0_1 c (Ring.bk 8 t.val) 0 f) ∗ flightG c G (Ring.sl 2 t.val) (Ring.bk 8 (t.val - 2)) ∗ flightG c G (Ring.sl 2 (t.val + 1)) (Ring.bk 8 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ Ring.kept (cellP0_0 c) (slotW0_0 c fh0) (landed0_0 c fh0) (Ring.sl 2 t.val) (Ring.bk 8 t.val) ∗ pieceG c G (Ring.bk 8 t.val) ∗ pieceG c G (Ring.bk 8 (t.val - 2)) ∗ pieceG c G (Ring.bk 8 (t.val - 1)) ∗ wcellP0_1 c (Ring.sl 2 t.val) 0 ∗ (∃ e, wtileP0_1 c (Ring.sl 2 t.val) 0 e) ∗ wcellP0_1 c (Ring.sl 2 (t.val + 1)) 0 ∗ (∃ e, wtileP0_1 c (Ring.sl 2 (t.val + 1)) 0 e) ∗ (∃ W', owes (c : Thread nD τ) 0 W')) -∗ K ⟨⟩))
          ⊢ wp frame (wpE (defs₀ (F := F)) Variants.none c none) Set.univ (cc0__body (grid0.coords t) (Memref.whole main_arg1) (Memref.isWhole_whole _) arg2 harg2 arg3 harg3 arg4 harg4 arg5 harg5 arg6 harg6 arg7 harg7 (Memref.whole main_v32) (Memref.isWhole_whole _) scM0_0 (Memref.isWhole_whole _) scM0_1 (Memref.isWhole_whole _) cc0_scratch2 cc0_scratch3) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (cond0_3 (grid0.coords t)) := ⟨hc3⟩
    haveI : Fact (cond0_4 (grid0.coords t)) := ⟨hc4⟩
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept flightG
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ff0_0, Hf0_0, Hrf0_0⟩, ⟨%fp0_1_0, Hp0_1_0⟩, ⟨%fe0_1_0, HF0_1_0⟩, ⟨%ie0_1_0, HI0_1_0⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    have hw : valRunD.sl.dma54 c t arg2 harg2 arg3 harg3 arg4 harg4 arg5 harg5 arg6 harg6 arg7 harg7 x0 x1 x2 x3 x4 x5 fh0 fe0_1_0 = outB x0 x1 x2 x3 x4 x5 (blk c t fh0) := by
      have hv : valRunD.sl.v20 c t fh0 = blk c t fh0 := load_slot c t _ (wcoff0_1_10 t) _ _ _
      refine (read_tile c t _ (wcoff0_1_10 t) _ fe0_1_0 _).trans ?_
      have e0 : View.readAt (Elt F) arg2.view (Rect.unit (s := S207x207) ![0, 0] S207x207.size (by decide)).toLoadRect (harg2.unread x0) = x0 := load_whole arg2 harg2 x0 _ (by decide) _
      have e1 : View.readAt (Elt F) arg3.view (Rect.unit (s := S207x207) ![0, 0] S207x207.size (by decide)).toLoadRect (harg3.unread x1) = x1 := load_whole arg3 harg3 x1 _ (by decide) _
      have e2 : View.readAt (Elt F) arg4.view (Rect.unit (s := S256x256) ![0, 0] S256x256.size (by decide)).toLoadRect (harg4.unread x2) = x2 := load_whole arg4 harg4 x2 _ (by decide) _
      have e3 : View.readAt (Elt F) arg5.view (Rect.unit (s := S256x256) ![0, 0] S256x256.size (by decide)).toLoadRect (harg5.unread x3) = x3 := load_whole arg5 harg5 x3 _ (by decide) _
      have e4 : View.readAt (Elt F) arg6.view (Rect.unit (s := S256x256) ![0, 0] S256x256.size (by decide)).toLoadRect (harg6.unread x4) = x4 := load_whole arg6 harg6 x4 _ (by decide) _
      have e5 : View.readAt (Elt F) arg7.view (Rect.unit (s := S1x256) ![0, 0] S1x256.size (by decide)).toLoadRect (harg7.unread x5) = x5 := load_whole arg7 harg7 x5 _ (by decide) _
      refine Eq.trans ?_ (congr (congr (congr (congr (congr (congr (congrArg outB e0) e1) e2) e3) e4) e5) hv)
      rfl
    try unfold flightG
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 8 t.val)).2; isplitl [Hf0_0_src]; · iexact Hf0_0_src
      iexact Hrf0_0
    isplitl [Hp0_1_0]
    · unfold pieceG
      rw [← piece_eq c (Ring.bk 8 t.val) fp0_1_0 G (valRunD.sl.dma54 c t arg2 harg2 arg3 harg3 arg4 harg4 arg5 harg5 arg6 harg6 arg7 harg7 x0 x1 x2 x3 x4 x5 fh0 fe0_1_0) (hG.trans hw.symm)]
      iexact Hp0_1_0
    isplitl [HF0_1_0_dst]; · iexact HF0_1_0_dst
    isplitl [HI0_1_0_dst]; · iexact HI0_1_0_dst
    isplitl [HF0_1_0]; · iexact HF0_1_0
    isplitl [HF0_1_0_src]; · iexists _; iexact HF0_1_0_src
    isplitl [HI0_1_0]; · iexact HI0_1_0
    isplitl [HI0_1_0_src]; · iexists _; iexact HI0_1_0_src
    iexists _; iexact HW

end Cert.KernelIdeal.Val

end
-- ==== Proof.GVal.lean ====
module

public import proofs.«01_k».proof.Proof.RingVal
public import Idealize.ShloMosaic.Lib.ValueIdxCore

@[expose] public section

set_option maxRecDepth 16384

noncomputable section

namespace Cert.KernelIdeal.Val

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ)

/-- The grid's step that writes row `r` of the result. -/
def stepOf (r : Fin 1024) : Fin cfg0.N := ⟨r.val / 128, by have := r.isLt; rw [show cfg0.N = 8 from N_0]; omega⟩

/-- The rows step `t` writes, from the windows' blocks and the rows read at that step. -/
def outAt (c : Dev nD) (t : Fin cfg0.N) : FVec F S128x6624 .f32 :=
  outB (iblk m c 0 t) (iblk m c 1 t) (iblk m c 2 t) (iblk m c 3 t) (iblk m c 4 t) (iblk m c 5 t)
    (blk c t (V m c main_arg1))

/-- The whole result: each row where its step puts it. -/
def Gv (c : Dev nD) : Buf (Elt F) ((c : Thread nD τ).loc main_v32) := fun (i : S1024x6624.Idx) =>
  outAt m c (stepOf (i 0)) (ix2 ⟨(i 0).val % 128, Nat.mod_lt _ (by decide)⟩ (i 1))

/-- What step `t`'s piece reads of the whole result is what that step writes. -/
theorem hGv (c : Dev nD) (t : Fin cfg0.N) :
    (wpiece0_1 (Ring.bk 8 t.val) 0).view.read (Elt F) (Gv m c)
      = outB (iblk m c 0 t) (iblk m c 1 t) (iblk m c 2 t) (iblk m c 3 t) (iblk m c 4 t) (iblk m c 5 t)
          (blk c t (V m c main_arg1)) := by
  have ht : t.val < 8 := lt_of_lt_of_eq t.isLt (show cfg0.N = 8 from N_0)
  funext a
  obtain ⟨i, hi⟩ : ∃ i : S1024x6624.Idx, i = (wpiece0_1 (Ring.bk 8 t.val) 0).view.emb a := ⟨_, rfl⟩
  have hd : View.read (Elt F) (wpiece0_1 (Ring.bk 8 t.val) 0).view (Gv m c) a
      = outAt m c (stepOf (i 0)) (ix2 ⟨(i 0).val % 128, Nat.mod_lt _ (by decide)⟩ (i 1)) := by rw [hi]; rfl
  rw [hd]
  have e0 : (i 0).val = 128 * (t.val % 8) + 1 * (a 0).val := by rw [hi]; rfl
  have e1 : (i 1).val = 0 + 1 * (a 1).val := by rw [hi]; rfl
  have h0 : (a 0).val < 128 := (a 0).isLt
  have es : stepOf (i 0) = t := by
    apply Fin.ext; show (i 0).val / 128 = t.val
    rw [e0]; omega
  rw [es]
  show outAt m c t _ = outAt m c t a
  congr 1
  funext d
  match d with
  | ⟨0, _⟩ =>
    apply Fin.ext
    show (i 0).val % 128 = (a 0).val
    rw [e0]; omega
  | ⟨1, _⟩ =>
    apply Fin.ext
    show (i 1).val = (a 1).val
    rw [e1]; omega

/-- The pieces cover the result. -/
theorem pieces_cover : Finset.univ.biUnion wpieceSet0_1 = Finset.univ := by
  ext i
  simp only [Finset.mem_biUnion, Finset.mem_univ, true_and, iff_true]
  have h0 : (i 0).val < 1024 := (i 0).isLt
  have h1 : (i 1).val < 6624 := (i 1).isLt
  refine ⟨(⟨(i 0).val / 128, by omega⟩, 0), Rect.mem_set_unit.mpr fun a => ?_⟩
  match a with
  | ⟨0, _⟩ => exact ⟨show 128 * ((i 0).val / 128) ≤ (i 0).val by omega, show (i 0).val < 128 * ((i 0).val / 128) + 128 by omega⟩
  | ⟨1, _⟩ => exact ⟨Nat.zero_le _, show (i 1).val < 0 + 6624 by omega⟩

/-- The pieces, each reading `G`, and the elements outside them are the result whole at `G`. -/
theorem pieces_join (c : Dev nD) (G : Buf (Elt F) ((c : Thread nD τ).loc main_v32)) :
    (iprop(bigSep Finset.univ (pieceG (F := F) c G) ∗ wpieceSpare0_1 (F := F) c) : sProp 𝕄)
      ⊢ hbPt0 c hbM0_1 G := by
  have hp : (bigSep Finset.univ (pieceG (F := F) c G) : sProp 𝕄)
      = bigSep Finset.univ (fun i : Fin 8 × Fin 1 => ((c : Thread nD τ).loc main_v32) ↦[wpieceSet0_1 i]{fullShare} G) := by
    rw [BI.bigSep_univ_prod]
    refine BI.bigSep_congr fun u _ => ?_
    rw [BI.bigSep_eq_bigSepL_of_eq [0] (by decide) (by decide), BI.bigSepL_singleton]
    exact wpieceP0_1_eq c u 0 G
  rw [hp, ← pointsTo_biUnion (Ix := Unit) (Name := ℕ) (U := Pipeline.UD sig nD τ) (Lvl := ℕ) (q := fullShare) (f := G) Finset.univ wpieceSet0_1 (fun i _ i' _ h => wpieces0_1_disjoint i i' h)]
  iintro ⟨H, ⟨%f, HS⟩⟩
  unfold hbPt0
  have hs : Finset.univ.biUnion wpieceSet0_1 = Finset.univ := pieces_cover
  rw [hs]
  iexact H

end Cert.KernelIdeal.Val

end
-- ==== Proof.FrameVal.lean ====
module

public import proofs.«01_k».proof.Proof.ValA
public import proofs.«01_k».proof.Proof.ValB
public import proofs.«01_k».proof.Proof.ValC
public import proofs.«01_k».proof.Proof.ValD
public import proofs.«01_k».proof.Proof.GVal
public import Idealize.ShloMosaic.Lib.Claim
public import Idealize.ShloMosaic.Lib.Pipeline.FrameValue

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The write ring before step `k`: the pieces ahead at some contents, the pieces behind at the rows of `G`. -/
def wringG (c : Dev nD) (G : Buf (Elt F) ((c : Thread nD τ).loc main_v32)) (k : ℕ) : sProp 𝕄 :=
  Ring.AtBΦ 2 (wfree0_1 c) (flightG c G) (whome0_1 c) (pieceG c G) k

/-- The invariant before point `k`: the generator register, the read ring, and the write ring at the result's rows. -/
def PhiG (c : Dev nD) (k : ℕ) : sProp 𝕄 := iprop((∃ r, prngReg c r) ∗ ringAt0_0 c (V m c main_arg1) k ∗ (wringG c (Gv m c) k ∗ wtileSpare0_1 c ∗ wpieceSpare0_1 c))

/-- The pipeline's proof data on core `c`: the arrays as the launch finds them, every input window left at its block. -/
def datsG (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := PhiG m c t.val
  q _ := fullShare
  owed _ := 0

/-- The data's arrays are those the launch finds. -/
theorem A_eq (c : Dev nD) (w : Fin cfg0.W) : (datsG m 0 c).A w = V m c (Pipeline.arrRef spec0 w) := by
  dsimp only [datsG]
/-- The invariant at a point's start. -/
theorem PhiG_castSucc (c : Dev nD) (t : Fin cfg0.N) : (datsG m 0 c).Φ t.castSucc = PhiG m c t.val := by
  dsimp only [datsG]; simp only [Fin.coe_castSucc]
/-- The invariant at a point's end. -/
theorem PhiG_succ (c : Dev nD) (t : Fin cfg0.N) : (datsG m 0 c).Φ t.succ = PhiG m c (t.val + 1) := by
  dsimp only [datsG]; simp only [Fin.val_succ]

/-! Each input window is left, and found, at its block. -/

theorem after0_0 (c : Dev nD) (t : Fin cfg0.N) : (datsG m 0 c).after 0 t = iblk m c 0 t := by dsimp only [datsG]
theorem after0_1 (c : Dev nD) (t : Fin cfg0.N) : (datsG m 0 c).after 1 t = iblk m c 1 t := by dsimp only [datsG]
theorem after0_2 (c : Dev nD) (t : Fin cfg0.N) : (datsG m 0 c).after 2 t = iblk m c 2 t := by dsimp only [datsG]
theorem after0_3 (c : Dev nD) (t : Fin cfg0.N) : (datsG m 0 c).after 3 t = iblk m c 3 t := by dsimp only [datsG]
theorem after0_4 (c : Dev nD) (t : Fin cfg0.N) : (datsG m 0 c).after 4 t = iblk m c 4 t := by dsimp only [datsG]
theorem after0_5 (c : Dev nD) (t : Fin cfg0.N) : (datsG m 0 c).after 5 t = iblk m c 5 t := by dsimp only [datsG]
theorem before0_0 (c : Dev nD) (t : Fin cfg0.N) (d) : (datsG m 0 c).before 0 t d = iblk m c 0 t :=
  before0_0_of m (datsG m 0 c) (A_eq m c 0) (after0_0 m c) t d
theorem before0_1 (c : Dev nD) (t : Fin cfg0.N) (d) : (datsG m 0 c).before 1 t d = iblk m c 1 t :=
  before0_1_of m (datsG m 0 c) (A_eq m c 1) (after0_1 m c) t d
theorem before0_2 (c : Dev nD) (t : Fin cfg0.N) (d) : (datsG m 0 c).before 2 t d = iblk m c 2 t :=
  before0_2_of m (datsG m 0 c) (A_eq m c 2) (after0_2 m c) t d
theorem before0_3 (c : Dev nD) (t : Fin cfg0.N) (d) : (datsG m 0 c).before 3 t d = iblk m c 3 t :=
  before0_3_of m (datsG m 0 c) (A_eq m c 3) (after0_3 m c) t d
theorem before0_4 (c : Dev nD) (t : Fin cfg0.N) (d) : (datsG m 0 c).before 4 t d = iblk m c 4 t :=
  before0_4_of m (datsG m 0 c) (A_eq m c 4) (after0_4 m c) t d
theorem before0_5 (c : Dev nD) (t : Fin cfg0.N) (d) : (datsG m 0 c).before 5 t d = iblk m c 5 t :=
  before0_5_of m (datsG m 0 c) (A_eq m c 5) (after0_5 m c) t d

/-- What the body is called with at point `t`. -/
def bodyPre (c : Dev nD) (t : Fin cfg0.N) : sProp 𝕄 :=
  iprop((datsG m 0 c).Φ t.castSucc ∗ (datsG m 0 c).owesAt () t.castSucc
    ∗ (∃ d, owns (c : Thread nD τ) (ms0_0 t) fullShare ((datsG m 0 c).before 0 t d))
    ∗ (∃ d, owns (c : Thread nD τ) (ms0_1 t) fullShare ((datsG m 0 c).before 1 t d))
    ∗ (∃ d, owns (c : Thread nD τ) (ms0_2 t) fullShare ((datsG m 0 c).before 2 t d))
    ∗ (∃ d, owns (c : Thread nD τ) (ms0_3 t) fullShare ((datsG m 0 c).before 3 t d))
    ∗ (∃ d, owns (c : Thread nD τ) (ms0_4 t) fullShare ((datsG m 0 c).before 4 t d))
    ∗ (∃ d, owns (c : Thread nD τ) (ms0_5 t) fullShare ((datsG m 0 c).before 5 t d)))

/-- What the body returns at point `t`. -/
def bodyPost (c : Dev nD) (t : Fin cfg0.N) : sProp 𝕄 :=
  iprop((datsG m 0 c).Φ t.succ ∗ (datsG m 0 c).owesAt () t.succ
    ∗ owns (c : Thread nD τ) (ms0_0 t) fullShare ((datsG m 0 c).after 0 t)
    ∗ owns (c : Thread nD τ) (ms0_1 t) fullShare ((datsG m 0 c).after 1 t)
    ∗ owns (c : Thread nD τ) (ms0_2 t) fullShare ((datsG m 0 c).after 2 t)
    ∗ owns (c : Thread nD τ) (ms0_3 t) fullShare ((datsG m 0 c).after 3 t)
    ∗ owns (c : Thread nD τ) (ms0_4 t) fullShare ((datsG m 0 c).after 4 t)
    ∗ owns (c : Thread nD τ) (ms0_5 t) fullShare ((datsG m 0 c).after 5 t))

set_option maxHeartbeats 3200000 in
/-- The body at any point takes the invariant one step on: the step's piece ends at the rows `Gv` holds there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5]
  rw [PhiG_castSucc m c t, PhiG_succ m c t]
  unfold Dat.owesAt Pipeline.owesWithin
  rw [show (datsG m 0 c).owed t.castSucc = 0 from rfl, show (datsG m 0 c).owed t.succ = 0 from rfl]
  unfold PhiG ringAt0_0 wringG
  have hgN : grid0.N = 8 := N_0
  have hN : t.val < 8 := lt_of_lt_of_eq t.isLt (show cfg0.N = 8 from N_0)
  by_cases h0 : t.val % 8 = 0
  · by_cases h1 : t.val < 7
    · by_cases h2 : 2 ≤ t.val
      · exfalso; omega
      · by_cases h3 : t.val % 8 = 7
        · exfalso; omega
        · have hr0 := rstep0_0_A t ((hcond0_0 t).mpr h0) ((hcond0_1 t).mpr h1) (fun h => h2 ((hcond0_2 t).mp h)) (fun h => h3 ((hcond0_3 t).mp h))
          obtain ⟨hK00, hK10⟩ := hr0
          rw [if_pos hK00, if_neg (show ¬t.val + 1 = 0 by omega)]
          rw [Ring.At₀_eq2' _ _ _ t.val hK00 (by decide : 2 ≤ 8), Ring.AtK2_one' _ _ _ _ _ t.val hK00 (by decide : 1 < 8)]
          have hw1 := wstep0_1_A t ((hcond0_0 t).mpr h0) ((hcond0_1 t).mpr h1) (fun h => h2 ((hcond0_2 t).mp h)) (fun h => h3 ((hcond0_3 t).mp h))
          obtain ⟨hWlt1, hWs1⟩ := hw1
          rcases (show t.val = 0 ∨ t.val = 1 by omega) with hW1 | hW1
          · rw [Ring.AtBΦ_lt _ _ _ _ _ t.val (by omega), Ring.AtB2_zero' 2 _ _ _ _ t.val hW1, Ring.AtBΦ_lt _ _ _ _ _ (t.val + 1) (by omega), Ring.AtB22_next_zero' _ _ _ _ t.val hW1]
            iintro ⟨⟨Hg, ⟨-, Hfr0_0_0, Hfr0_0_1⟩, ⟨⟨⟨Hp0_1_0, HA0_1⟩, ⟨Hq0_1_0, Ht0_1_0⟩, Hfx0_1⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
            iapply ((valRunA c t _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (V m c main_arg1) (Gv m c) (hGv m c t)) W _)
            isplitl [H0]; · iexact H0
            isplitl [H1]; · iexact H1
            isplitl [H2]; · iexact H2
            isplitl [H3]; · iexact H3
            isplitl [H4]; · iexact H4
            isplitl [H5]; · iexact H5
            isplitl [Hfr0_0_0]; · iexact Hfr0_0_0
            isplitl [Hfr0_0_1]; · iexact Hfr0_0_1
            isplitl [Hp0_1_0]; · iexact Hp0_1_0
            isplitl [Hq0_1_0]; · iexact Hq0_1_0
            isplitl [Ht0_1_0]; · iexact Ht0_1_0
            isplitl [HW]; · iexact HW
            iintro ⟨H0, H1, H2, H3, H4, H5, Hfl0_0', Hkp0_0', Hn0_1_0, ⟨%W', HW'⟩⟩
            isplitl [Hg HA0_1 Hfx0_1 HTsp0_1 HPsp0_1 Hfl0_0' Hkp0_0' Hn0_1_0]
            · isplitl [Hg]; · iexact Hg
              isplitl [Hfl0_0' Hkp0_0']
              · iapply Ring.with_homes₀
                isplitl [Hfl0_0']; · iexact Hfl0_0'
                iexact Hkp0_0'
              isplitl [HA0_1 Hfx0_1 Hn0_1_0]
              · isplitl [HA0_1]
                · iexact HA0_1
                isplitl [Hfx0_1]
                · iexact Hfx0_1
                iexact Hn0_1_0
              isplitl [HTsp0_1]
              · iexact HTsp0_1
              iexact HPsp0_1
            isplitl [HW']
            · iexists W'; isplitr; · ipureintro; exact fun _ _ => Or.inl trivial
              iexact HW'
            isplitl [H0]; · iexact H0
            isplitl [H1]; · iexact H1
            isplitl [H2]; · iexact H2
            isplitl [H3]; · iexact H3
            isplitl [H4]; · iexact H4
            iexact H5
          · rw [Ring.AtBΦ_lt _ _ _ _ _ t.val (by omega), Ring.AtB22_one' _ _ _ _ t.val hW1 (by decide), Ring.AtBΦ_lt _ _ _ _ _ (t.val + 1) (by omega), Ring.AtB22_next_one' _ _ _ _ t.val hW1]
            iintro ⟨⟨Hg, ⟨-, Hfr0_0_0, Hfr0_0_1⟩, ⟨⟨⟨Hp0_1_0, HA0_1⟩, ⟨Hq0_1_0, Ht0_1_0⟩, Hcar0_1⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
            iapply ((valRunA c t _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (V m c main_arg1) (Gv m c) (hGv m c t)) W _)
            isplitl [H0]; · iexact H0
            isplitl [H1]; · iexact H1
            isplitl [H2]; · iexact H2
            isplitl [H3]; · iexact H3
            isplitl [H4]; · iexact H4
            isplitl [H5]; · iexact H5
            isplitl [Hfr0_0_0]; · iexact Hfr0_0_0
            isplitl [Hfr0_0_1]; · iexact Hfr0_0_1
            isplitl [Hp0_1_0]; · iexact Hp0_1_0
            isplitl [Hq0_1_0]; · iexact Hq0_1_0
            isplitl [Ht0_1_0]; · iexact Ht0_1_0
            isplitl [HW]; · iexact HW
            iintro ⟨H0, H1, H2, H3, H4, H5, Hfl0_0', Hkp0_0', Hn0_1_0, ⟨%W', HW'⟩⟩
            isplitl [Hg HA0_1 Hcar0_1 HTsp0_1 HPsp0_1 Hfl0_0' Hkp0_0' Hn0_1_0]
            · isplitl [Hg]; · iexact Hg
              isplitl [Hfl0_0' Hkp0_0']
              · iapply Ring.with_homes₀
                isplitl [Hfl0_0']; · iexact Hfl0_0'
                iexact Hkp0_0'
              isplitl [HA0_1 Hcar0_1 Hn0_1_0]
              · isplitl [HA0_1]
                · iexact HA0_1
                isplitl [Hcar0_1]
                · iexact Hcar0_1
                iexact Hn0_1_0
              isplitl [HTsp0_1]
              · iexact HTsp0_1
              iexact HPsp0_1
            isplitl [HW']
            · iexists W'; isplitr; · ipureintro; exact fun _ _ => Or.inl trivial
              iexact HW'
            isplitl [H0]; · iexact H0
            isplitl [H1]; · iexact H1
            isplitl [H2]; · iexact H2
            isplitl [H3]; · iexact H3
            isplitl [H4]; · iexact H4
            iexact H5
    · exfalso; omega
  · by_cases h1 : t.val < 7
    · by_cases h2 : 2 ≤ t.val
      · by_cases h3 : t.val % 8 = 7
        · exfalso; omega
        · have hr0 := rstep0_0_C t (fun h => h0 ((hcond0_0 t).mp h)) ((hcond0_1 t).mpr h1) ((hcond0_2 t).mpr h2) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          have hw1 := wstep0_1_C t (fun h => h0 ((hcond0_0 t).mp h)) ((hcond0_1 t).mpr h1) ((hcond0_2 t).mpr h2) (fun h => h3 ((hcond0_3 t).mp h))
          obtain ⟨hW21, hWlt1, hWs1⟩ := hw1
          rw [Ring.AtBΦ_lt _ _ _ _ _ t.val (by omega), Ring.AtB22_here _ _ _ _ t.val hW21 (by omega), Ring.AtBΦ_lt _ _ _ _ _ (t.val + 1) hWlt1, Ring.AtB22_next _ _ _ _ t.val hW21 (by omega)]
          iintro ⟨⟨Hg, ⟨-, Hfl0_0, Hkp0_0⟩, ⟨⟨⟨Hp0_1_0, HA0_1⟩, HB0_1, HF0_1_0, Hcar0_1⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
          iapply ((valRunC c t _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (V m c main_arg1) (Gv m c) (hGv m c t)) W _)
          isplitl [H0]; · iexact H0
          isplitl [H1]; · iexact H1
          isplitl [H2]; · iexact H2
          isplitl [H3]; · iexact H3
          isplitl [H4]; · iexact H4
          isplitl [H5]; · iexact H5
          isplitl [Hfl0_0]; · iexact Hfl0_0
          isplitl [Hkp0_0]; · iexact Hkp0_0
          isplitl [Hp0_1_0]; · iexact Hp0_1_0
          isplitl [HF0_1_0]; · iexact HF0_1_0
          isplitl [HW]; · iexact HW
          iintro ⟨H0, H1, H2, H3, H4, H5, Hfl0_0', Hkp0_0', Hl0_1_0, Hn0_1_0, ⟨%W', HW'⟩⟩
          isplitl [Hg HA0_1 HB0_1 Hcar0_1 HTsp0_1 HPsp0_1 Hfl0_0' Hkp0_0' Hl0_1_0 Hn0_1_0]
          · isplitl [Hg]; · iexact Hg
            isplitl [Hfl0_0' Hkp0_0']
            · iapply (Ring.with_homes (Idealize.SL.BI.Entails.refl _))
              isplitl [Hfl0_0']; · iexact Hfl0_0'
              iexact Hkp0_0'
            isplitl [HA0_1 Hl0_1_0 HB0_1 Hcar0_1 Hn0_1_0]
            · isplitl [HA0_1]
              · iexact HA0_1
              isplitl [Hl0_1_0 HB0_1]
              · isplitl [Hl0_1_0]
                · iexact Hl0_1_0
                iexact HB0_1
              isplitl [Hcar0_1]
              · iexact Hcar0_1
              iexact Hn0_1_0
            isplitl [HTsp0_1]
            · iexact HTsp0_1
            iexact HPsp0_1
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
      · by_cases h3 : t.val % 8 = 7
        · exfalso; omega
        · have hr0 := rstep0_0_B t (fun h => h0 ((hcond0_0 t).mp h)) ((hcond0_1 t).mpr h1) (fun h => h2 ((hcond0_2 t).mp h)) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          have hw1 := wstep0_1_B t (fun h => h0 ((hcond0_0 t).mp h)) ((hcond0_1 t).mpr h1) (fun h => h2 ((hcond0_2 t).mp h)) (fun h => h3 ((hcond0_3 t).mp h))
          obtain ⟨hWlt1, hWs1⟩ := hw1
          rcases (show t.val = 0 ∨ t.val = 1 by omega) with hW1 | hW1
          · rw [Ring.AtBΦ_lt _ _ _ _ _ t.val (by omega), Ring.AtB2_zero' 2 _ _ _ _ t.val hW1, Ring.AtBΦ_lt _ _ _ _ _ (t.val + 1) (by omega), Ring.AtB22_next_zero' _ _ _ _ t.val hW1]
            iintro ⟨⟨Hg, ⟨-, Hfl0_0, Hkp0_0⟩, ⟨⟨⟨Hp0_1_0, HA0_1⟩, ⟨Hq0_1_0, Ht0_1_0⟩, Hfx0_1⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
            iapply ((valRunB c t _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (V m c main_arg1) (Gv m c) (hGv m c t)) W _)
            isplitl [H0]; · iexact H0
            isplitl [H1]; · iexact H1
            isplitl [H2]; · iexact H2
            isplitl [H3]; · iexact H3
            isplitl [H4]; · iexact H4
            isplitl [H5]; · iexact H5
            isplitl [Hfl0_0]; · iexact Hfl0_0
            isplitl [Hkp0_0]; · iexact Hkp0_0
            isplitl [Hp0_1_0]; · iexact Hp0_1_0
            isplitl [Hq0_1_0]; · iexact Hq0_1_0
            isplitl [Ht0_1_0]; · iexact Ht0_1_0
            isplitl [HW]; · iexact HW
            iintro ⟨H0, H1, H2, H3, H4, H5, Hfl0_0', Hkp0_0', Hn0_1_0, ⟨%W', HW'⟩⟩
            isplitl [Hg HA0_1 Hfx0_1 HTsp0_1 HPsp0_1 Hfl0_0' Hkp0_0' Hn0_1_0]
            · isplitl [Hg]; · iexact Hg
              isplitl [Hfl0_0' Hkp0_0']
              · iapply (Ring.with_homes (Idealize.SL.BI.Entails.refl _))
                isplitl [Hfl0_0']; · iexact Hfl0_0'
                iexact Hkp0_0'
              isplitl [HA0_1 Hfx0_1 Hn0_1_0]
              · isplitl [HA0_1]
                · iexact HA0_1
                isplitl [Hfx0_1]
                · iexact Hfx0_1
                iexact Hn0_1_0
              isplitl [HTsp0_1]
              · iexact HTsp0_1
              iexact HPsp0_1
            isplitl [HW']
            · iexists W'; isplitr; · ipureintro; exact fun _ _ => Or.inl trivial
              iexact HW'
            isplitl [H0]; · iexact H0
            isplitl [H1]; · iexact H1
            isplitl [H2]; · iexact H2
            isplitl [H3]; · iexact H3
            isplitl [H4]; · iexact H4
            iexact H5
          · rw [Ring.AtBΦ_lt _ _ _ _ _ t.val (by omega), Ring.AtB22_one' _ _ _ _ t.val hW1 (by decide), Ring.AtBΦ_lt _ _ _ _ _ (t.val + 1) (by omega), Ring.AtB22_next_one' _ _ _ _ t.val hW1]
            iintro ⟨⟨Hg, ⟨-, Hfl0_0, Hkp0_0⟩, ⟨⟨⟨Hp0_1_0, HA0_1⟩, ⟨Hq0_1_0, Ht0_1_0⟩, Hcar0_1⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
            iapply ((valRunB c t _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (V m c main_arg1) (Gv m c) (hGv m c t)) W _)
            isplitl [H0]; · iexact H0
            isplitl [H1]; · iexact H1
            isplitl [H2]; · iexact H2
            isplitl [H3]; · iexact H3
            isplitl [H4]; · iexact H4
            isplitl [H5]; · iexact H5
            isplitl [Hfl0_0]; · iexact Hfl0_0
            isplitl [Hkp0_0]; · iexact Hkp0_0
            isplitl [Hp0_1_0]; · iexact Hp0_1_0
            isplitl [Hq0_1_0]; · iexact Hq0_1_0
            isplitl [Ht0_1_0]; · iexact Ht0_1_0
            isplitl [HW]; · iexact HW
            iintro ⟨H0, H1, H2, H3, H4, H5, Hfl0_0', Hkp0_0', Hn0_1_0, ⟨%W', HW'⟩⟩
            isplitl [Hg HA0_1 Hcar0_1 HTsp0_1 HPsp0_1 Hfl0_0' Hkp0_0' Hn0_1_0]
            · isplitl [Hg]; · iexact Hg
              isplitl [Hfl0_0' Hkp0_0']
              · iapply (Ring.with_homes (Idealize.SL.BI.Entails.refl _))
                isplitl [Hfl0_0']; · iexact Hfl0_0'
                iexact Hkp0_0'
              isplitl [HA0_1 Hcar0_1 Hn0_1_0]
              · isplitl [HA0_1]
                · iexact HA0_1
                isplitl [Hcar0_1]
                · iexact Hcar0_1
                iexact Hn0_1_0
              isplitl [HTsp0_1]
              · iexact HTsp0_1
              iexact HPsp0_1
            isplitl [HW']
            · iexists W'; isplitr; · ipureintro; exact fun _ _ => Or.inl trivial
              iexact HW'
            isplitl [H0]; · iexact H0
            isplitl [H1]; · iexact H1
            isplitl [H2]; · iexact H2
            isplitl [H3]; · iexact H3
            isplitl [H4]; · iexact H4
            iexact H5
    · by_cases h2 : 2 ≤ t.val
      · by_cases h3 : t.val % 8 = 7
        · by_cases h4 : 1 ≤ t.val
          · have hr0 := rstep0_0_D t (fun h => h0 ((hcond0_0 t).mp h)) (fun h => h1 ((hcond0_1 t).mp h)) ((hcond0_2 t).mpr h2) ((hcond0_3 t).mpr h3) ((hcond0_4 t).mpr h4)
            obtain ⟨hK10, hKB0, hKs0⟩ := hr0
            rw [if_neg (show ¬t.val = 0 by omega), if_neg (show ¬t.val + 1 = 0 by omega)]
            rw [Ring.AtK2_here_last _ _ _ _ _ t.val hK10 hKB0, Ring.AtK2_next_last _ _ _ _ _ t.val hK10 hKB0]
            have hw1 := wstep0_1_D t (fun h => h0 ((hcond0_0 t).mp h)) (fun h => h1 ((hcond0_1 t).mp h)) ((hcond0_2 t).mpr h2) ((hcond0_3 t).mpr h3) ((hcond0_4 t).mpr h4)
            obtain ⟨hW21, hWend1, hWs1⟩ := hw1
            rw [Ring.AtBΦ_lt _ _ _ _ _ t.val (by omega), Ring.AtB22_here_last _ _ _ _ t.val hW21 hWend1, Ring.AtBΦ_end _ _ _ _ _ (t.val + 1) hWend1, Ring.AtB22_drained _ _ t.val hW21 hWend1]
            iintro ⟨⟨Hg, ⟨-, Hfl0_0, Hkp0_0⟩, ⟨⟨Hp0_1_0, HB0_1, HF0_1_0, HI0_1_0⟩, HTsp0_1, HPsp0_1⟩⟩, ⟨%W, -, HW⟩, ⟨%d0, H0⟩, ⟨%d1, H1⟩, ⟨%d2, H2⟩, ⟨%d3, H3⟩, ⟨%d4, H4⟩, ⟨%d5, H5⟩⟩
            iapply ((valRunD c t _ _ _ _ _ _ _ _ _ _ _ _ (fun h => h0 ((hcond0_0 t).mp h)) (fun h => h1 ((hcond0_1 t).mp h)) ((hcond0_2 t).mpr h2) ((hcond0_3 t).mpr h3) ((hcond0_4 t).mpr h4) (iblk m c 0 t) (iblk m c 1 t) (iblk m c 2 t) (iblk m c 3 t) (iblk m c 4 t) (iblk m c 5 t) (V m c main_arg1) (Gv m c) (hGv m c t)) W _)
            isplitl [H0]; · iexact H0
            isplitl [H1]; · iexact H1
            isplitl [H2]; · iexact H2
            isplitl [H3]; · iexact H3
            isplitl [H4]; · iexact H4
            isplitl [H5]; · iexact H5
            isplitl [Hfl0_0]; · iexact Hfl0_0
            isplitl [Hp0_1_0]; · iexact Hp0_1_0
            isplitl [HF0_1_0]; · iexact HF0_1_0
            isplitl [HI0_1_0]; · iexact HI0_1_0
            isplitl [HW]; · iexact HW
            iintro ⟨H0, H1, H2, H3, H4, H5, Hkp0_0', Ho0_1_0, Hl0_1_0, Hm0_1_0, Hqo0_1_0, Hto0_1_0, Hqp0_1_0, Htp0_1_0, ⟨%W', HW'⟩⟩
            isplitl [Hg Hkp0_0 HB0_1 HTsp0_1 HPsp0_1 Hkp0_0' Ho0_1_0 Hl0_1_0 Hm0_1_0 Hqo0_1_0 Hto0_1_0 Hqp0_1_0 Htp0_1_0]
            · isplitl [Hg]; · iexact Hg
              isplitl [Hkp0_0 Hkp0_0']
              · iapply (Ring.with_homes (Idealize.SL.BI.Entails.refl _))
                isplitl [Hkp0_0]; · iexact Hkp0_0
                iexact Hkp0_0'
              isplitl [Ho0_1_0 Hl0_1_0 Hm0_1_0 HB0_1 Hqo0_1_0 Hto0_1_0 Hqp0_1_0 Htp0_1_0]
              · isplitl [Ho0_1_0 Hl0_1_0 Hm0_1_0 HB0_1]
                · isplitl [Ho0_1_0]
                  · iexact Ho0_1_0
                  isplitl [Hl0_1_0]
                  · iexact Hl0_1_0
                  isplitl [Hm0_1_0]
                  · iexact Hm0_1_0
                  iexact HB0_1
                isplitl [Hqo0_1_0 Hto0_1_0]
                · isplitl [Hqo0_1_0]
                  · iexact Hqo0_1_0
                  iexact Hto0_1_0
                isplitl [Hqp0_1_0]
                · iexact Hqp0_1_0
                iexact Htp0_1_0
              isplitl [HTsp0_1]
              · iexact HTsp0_1
              iexact HPsp0_1
            isplitl [HW']
            · iexists W'; isplitr; · ipureintro; exact fun _ _ => Or.inl trivial
              iexact HW'
            isplitl [H0]; · iexact H0
            isplitl [H1]; · iexact H1
            isplitl [H2]; · iexact H2
            isplitl [H3]; · iexact H3
            isplitl [H4]; · iexact H4
            iexact H5
          · exfalso; omega
        · exfalso; omega
      · exfalso; omega

/-- The body's row of the table, at a point's slots. -/
theorem defs₀_row (t : Fin cfg0.N) :
    defs₀ (F := F) .tc cfg0.body (cfg0.bodyArgs t (cfg0.slots t)) = bodyAt0 t := by
  unfold defs₀; rw [Defs.onTc_tc]

/-- The body's triple, in the library's form. -/
theorem body_obligation (c : Dev nD) : BodyObligation (datsG (F := F) m 0 c) (defs₀ (F := F)) Variants.none () Set.univ := fun t => by
  rw [bigSep_W0, bigSep_W0, defs₀_row]
  exact triple_restated (sound_body m c t) rfl .rfl fun _ => .rfl

/-- What every buffer holds at the end: the result at `Gv`, every other as the launch found it. -/
def GF (c : Dev nD) (b : Ref sig .tc) : Buf (Elt F) ((c : Thread nD τ).loc b) :=
  if h : b = main_v32 then h ▸ Gv m c else V m c b

theorem GF_res (c : Dev nD) : GF m c main_v32 = Gv m c := by unfold GF; rw [dif_pos rfl]

/-- The write ring after the last step is the scratch, the cells, and the result whole at `G`. -/
theorem wringG_out (c : Dev nD) (G : Buf (Elt F) ((c : Thread nD τ).loc main_v32)) :
    iprop(wringG (F := F) c G 8 ∗ wtileSpare0_1 c ∗ wpieceSpare0_1 c)
      ⊢ iprop((∃ d, owns (c : Thread nD τ) scM0_1 fullShare d) ∗ (semVal ((c : Thread nD τ), SemLoc.dma 8) 0 ∗ semVal ((c : Thread nD τ), SemLoc.dma 9) 0) ∗ hbPt0 (F := F) c hbM0_1 G) := by
  unfold wringG; rw [Ring.AtBΦ_ge _ _ _ _ _ 8 (by decide), Ring.AtBEnd_frame]; unfold Ring.AtB₀
  rw [← wfrees0_1_eq, wcells0_1_eq]
  iintro ⟨⟨HP, HQ, HT⟩, HTsp, HPsp⟩
  isplitl [HT HTsp]
  · iapply (wtiles0_1_out (F := F) c)
    isplitl [HT]
    · iexact HT
    iexact HTsp
  isplitl [HQ]
  · iexact HQ
  iapply (pieces_join (F := F) c G)
  isplitl [HP]
  · iexact HP
  iexact HPsp

/-- The write ring before the first step does not say what it will write. -/
theorem wringG_in (c : Dev nD) (G : Buf (Elt F) ((c : Thread nD τ).loc main_v32)) :
    wringAt0_1 (F := F) c 0 ⊢ wringG c G 0 := by
  unfold wringAt0_1 wringG
  rw [Ring.AtBΦ_lt _ _ _ _ _ 0 (by decide), Ring.AtBΦ_lt _ _ _ _ _ 0 (by decide), Ring.AtB_zero, Ring.AtB_zero]

/-- What the launch hands over is the invariant before the first point. -/
theorem hin (c : Dev nD) : Pipeline.ΦDRG osem0 spec0 H0 R0 (V m) (V m) c ⊢ (datsG m 0 c).Φ 0 := by
  refine (Pipeline.ΦDRG_ΦDR _ _ _ _ _ _ _).trans ?_
  rw [PhiDR0_eq, show (datsG m 0 c).Φ 0 = PhiG m c 0 from rfl]
  unfold PhiG
  iintro ⟨⟨HR0_0, HRS0_1⟩, Hg, ⟨Hq0, Hq1, Hq2, Hq3⟩, Hh0, Ho1⟩
  isplitl [Hg]; · iexact Hg
  isplitl [HR0_0 Hq0 Hq1 Hh0]
  · iapply (ring0_0_in (F := F) m c)
    isplitl [HR0_0]; · iexact HR0_0
    isplitl [Hq0 Hq1]
    · isplitl [Hq0]; · iexact Hq0
      iexact Hq1
    iexact Hh0
  ihave HX := (wring0_1_in (F := F) c) $$ [HRS0_1 Hq2 Hq3 Ho1]
  · isplitl [HRS0_1]; · iexact HRS0_1
    isplitl [Hq2 Hq3]
    · isplitl [Hq2]; · iexact Hq2
      iexact Hq3
    iexact Ho1
  icases HX with ⟨HA, HB, HC⟩
  isplitl [HA]
  · iapply (wringG_in (F := F) c (Gv m c)); iexact HA
  isplitl [HB]
  · iexact HB
  iexact HC

/-- The invariant after the last point gives everything back, the result whole at `Gv`. -/
theorem hout (c : Dev nD) : (datsG m 0 c).Φ (Fin.last cfg0.N) ⊢ Pipeline.ΦDRG osem0 spec0 H0 R0 (V m) (GF m) c := by
  have hr : (Pipeline.routed R0 c (GF m c) : sProp 𝕄) = hbPt0 c hbM0_1 (Gv m c) := by
    unfold Pipeline.routed; rw [BI.bigSep_eq_bigSepL_of_eq [main_v32] (by decide) (by decide), BI.bigSepL_singleton, GF_res]; try rfl
  rw [Pipeline.ΦDRG_eq, scopedRest0_eq, ownSems00_eq, hbmPts0_eq, hr, show (datsG m 0 c).Φ (Fin.last cfg0.N) = PhiG m c grid0.N from rfl]
  unfold PhiG
  rw [show grid0.N = 8 by rw [N_0]]
  iintro ⟨Hg, HR0_0, HRW0_1⟩
  ihave HX0_0 := (ring0_0_out (F := F) m c) $$ HR0_0
  icases HX0_0 with ⟨HR0_0, ⟨Hq0, Hq1⟩, Hh0⟩
  ihave HX0_1 := (wringG_out (F := F) c (Gv m c)) $$ HRW0_1
  icases HX0_1 with ⟨HRS0_1, ⟨Hq2, Hq3⟩, Ho1⟩
  simp only [scM0_0, scM0_1, owns_whole]
  isplitl [HR0_0 HRS0_1]
  · isplitl [HR0_0]; · iexact HR0_0
    iexact HRS0_1
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]
  · iexact Hh0
  iexact Ho1

set_option backward.isDefEq.respectTransparency.types false in
/-- The launch: every execution ends with the arrays as the data says, the result at `GF`, and every counter at zero. -/
theorem run_value : θ_run defs (onTc (τ := τ) (main (F := F))) (s₀ m ρ) (fun r => (Pipeline.FramePostRG cfgs (datsG m) 0 R0 (V m) (GF m)) r ∧ r.2.sem = fun _ => 0) :=
  Pipeline.θ_run_frame_dmaRG (Q' := _) cfgs (datsG m) (0 : Fin 1) launch0 osem0 defs₀ Variants.none ownSemFacts0 H0 R0 H0_sub R0_sub m ρ main
    (hbody := fun c => (body_obligation m c).loose) (hshare := fun c => (datsG m 0 c).share_full fun _ => rfl)
    (howed := fun _ _ => rfl) (V := V m) (hmain := hmain m Variants.none) (hA := A_eq m) (G := GF m)
    (hin := hin m) (hout := hout m)

/-- Every execution ends with the result at `Gv` and the arguments unchanged. -/
theorem run : θ_run defs (onTc (τ := τ) (main (F := F))) ⟨m, fun _ => 0, ρ⟩ (fun r => ∀ c : Dev nD,
      r.2.mem ((c.tc : Thread nD τ).loc main_v32) = Gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 := (θ_run defs _ _).mono (fun r h c => (h.1.written c (show main_v32 ∈ R0 by decide)).trans (GF_res m c)) (run_value m ρ)
  have h2 := frame_of m ρ (datsG m) (A_eq m) ((θ_run defs _ _).mono (fun _ h => h.1.toR) (run_value m ρ))
  exact (θ_run defs _ _).mono (fun r h c => ⟨h.1 c, h.2 c⟩) (θ_run_and h1 h2)

end Cert.KernelIdeal.Val

end
-- ==== Proof.HostOps.lean ====
module

public import proofs.«01_k».proof.Proof.RingVal
public import Idealize.ShloMosaic.Lib.StableHlo.RunHlo

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen

variable {F : FTy → Type} [FloatOps F]

/-- The 8 by 8 identity, as the host makes it. -/
def eye : FVec F S8x8 .f32 :=
  uitofp .f32 (cmpi .eq (addi (iotaInDim S8x8 32 0) (broadcastInDim S8x8 ![] bcast_S_S8x8 (constantI S_ 32 0#32))) (iotaInDim S8x8 32 1))

/-- The Kronecker product of an 8 by 8 matrix and a 32 by 32 matrix, as the host makes it. -/
def kron (p : FVec F S8x8 .f32) (q : FVec F S32x32 .f32) : FVec F S256x256 .f32 :=
  shapeCast S256x256 (mulf
    (broadcastInDim S8x32x8x32 ![0, 1, 2, 3] bcast_S8x1x8x1_S8x32x8x32_0_1_2_3 (broadcastInDim S8x1x8x1 ![0, 2] bcast_S8x8_S8x1x8x1_0_2 p))
    (broadcastInDim S8x32x8x32 ![0, 1, 2, 3] bcast_S1x32x1x32_S8x32x8x32_0_1_2_3 (broadcastInDim S1x32x1x32 ![1, 3] bcast_S32x32_S1x32x1x32_1_3 q)))
    shapeCasts_S8x32x8x32_S256x256

/-- A 32 by 32 matrix times the step's factor. -/
def scale (x : FVec F S32x32 .f32) : FVec F S32x32 .f32 :=
  mulf (broadcastInDim S32x32 ![] bcast_S_S32x32 (constant S_ .f32 0xBDCCCCCD#32)) x

/-- Every third row of the weights from row 0. -/
def third0 (w : FVec F S96x32 .f32) : FVec F S32x32 .f32 := Host.slice S32x32 ![0, 0] ![3, 1] w slicesBy_S96x32_S32x32_0s3_0s1
/-- Every third row of the weights from row 1. -/
def third1 (w : FVec F S96x32 .f32) : FVec F S32x32 .f32 := Host.slice S32x32 ![1, 0] ![3, 1] w slicesBy_S96x32_S32x32_1s3_0s1
/-- Every third row of the weights from row 2. -/
def third2 (w : FVec F S96x32 .f32) : FVec F S32x32 .f32 := Host.slice S32x32 ![2, 0] ![3, 1] w slicesBy_S96x32_S32x32_2s3_0s1

/-- The bias row repeated for the 8 rows of a chunk, times the step's factor. -/
def biasRow (b : FVec F S32 .f32) : FVec F S1x256 .f32 :=
  shapeCast S1x256 (shapeCast S256 (broadcastInDim S8x32 ![0, 1] bcast_S1x32_S8x32_0_1
    (shapeCast S1x32 (mulf (broadcastInDim S32 ![] bcast_S_S32 (constant S_ .f32 0xBDCCCCCD#32)) b) shapeCasts_S32_S1x32))
    shapeCasts_S8x32_S256) shapeCasts_S256_S1x256

variable (m : (ℓ : Loc nD τ sig) → Buf (Elt F) ℓ)

set_option maxHeartbeats 2000000 in
/-- The states reach the kernel as given. -/
theorem V_arg1 (c : Dev nD) : V m c main_arg1 = m ((c.tc : Thread nD τ).loc main_arg1) := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The support reaches the kernel rounded. -/
theorem V_28 (c : Dev nD) : (V m c main_v28 : FVec F S207x207 .bf16) = truncf .bf16 (m ((c.tc : Thread nD τ).loc main_arg2) : FVec F S207x207 .f32) bitsLt_bf16_f32 := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The doubled support reaches the kernel rounded. -/
theorem V_31 (c : Dev nD) : (V m c main_v31 : FVec F S207x207 .bf16)
    = truncf .bf16 (mulf (broadcastInDim S207x207 ![] bcast_S_S207x207 (constant S_ .f32 0x40000000#32))
        (m ((c.tc : Thread nD τ).loc main_arg2) : FVec F S207x207 .f32)) bitsLt_bf16_f32 := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The bias reaches the kernel as its row. -/
theorem V_27 (c : Dev nD) : (V m c main_v27 : FVec F S1x256 .f32) = biasRow (m ((c.tc : Thread nD τ).loc main_arg4) : FVec F S32 .f32) := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The first weight matrix. -/
theorem V_17 (c : Dev nD) : (V m c main_v17 : FVec F S256x256 .bf16)
    = truncf .bf16 (kron eye (subf (scale (third0 (m ((c.tc : Thread nD τ).loc main_arg3) : FVec F S96x32 .f32)))
        (scale (third2 (m ((c.tc : Thread nD τ).loc main_arg3) : FVec F S96x32 .f32))))) bitsLt_bf16_f32 := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The second weight matrix. -/
theorem V_19 (c : Dev nD) : (V m c main_v19 : FVec F S256x256 .bf16)
    = truncf .bf16 (kron eye (scale (third1 (m ((c.tc : Thread nD τ).loc main_arg3) : FVec F S96x32 .f32)))) bitsLt_bf16_f32 := by
  unfold V; simp only [hostOps0, hostOps0_1, hostOps0_2, hostOps0_3, hostOps0_4, hostOps0_5, hostOps0_6, List.flatten_cons, List.flatten_nil, List.cons_append, List.nil_append, List.append_nil]; after_results <;> rfl

set_option maxHeartbeats 2000000 in
/-- The third weight matrix. -/
theorem V_21 (c : Dev nD) : (V m c main_v21 : FVec F S256x256 .bf16)
    = truncf .bf16 (kron eye (scale (third2 (m ((c.tc : Thread nD τ).loc main_arg3) : FVec F S96x32 .f32)))) bitsLt_bf16_f32 := by
  unfold V; simp only [hostOps0, hostOps0_1, hostOps0_2, hostOps0_3, hostOps0_4, hostOps0_5, hostOps0_6, List.flatten_cons, List.flatten_nil, List.cons_append, List.nil_append, List.append_nil]; after_results <;> rfl

end Cert.KernelIdeal.Val

end
-- ==== Proof.Plain.lean ====
module

public import Idealize.ShloMosaic.Lib.ValueIdx
public import Idealize.ShloMosaic.PureOps.Ideal.Laws

@[expose] public section

noncomputable section

namespace Cert.Plain

open Idealize.ShloMosaic Idealize.ShloMosaic.ValueIdx
open scoped BigOperators

/-- The column of the flat state that holds feature `d` of node `n`. -/
def col (n : Fin 207) (d : Fin 32) : Fin 6624 := ⟨32 * n.val + d.val, by have := n.isLt; have := d.isLt; omega⟩

/-- The node a column belongs to. -/
def nodeOf (q : Fin 6624) : Fin 207 := ⟨q.val / 32, by have := q.isLt; omega⟩

/-- The feature a column holds. -/
def featOf (q : Fin 6624) : Fin 32 := ⟨q.val % 32, Nat.mod_lt _ (by decide)⟩

/-- Every column is the column of its node and feature. -/
theorem col_of (q : Fin 6624) : col (nodeOf q) (featOf q) = q := by
  apply Fin.ext; show 32 * (q.val / 32) + q.val % 32 = q.val; omega

/-- The states, as an array. -/
abbrev Y := (⟨2, ![1024, 6624]⟩ : Shape).Idx → EReal
/-- The support, as an array. -/
abbrev L := (⟨2, ![207, 207]⟩ : Shape).Idx → EReal
/-- The weights, as an array. -/
abbrev W := (⟨2, ![96, 32]⟩ : Shape).Idx → EReal
/-- The bias, as an array. -/
abbrev B := (⟨1, ![32]⟩ : Shape).Idx → EReal

/-- The step's factor. -/
def neg : EReal := Ideal.ofBits .f32 0xBDCCCCCD#32
/-- The recurrence's factor. -/
def two : EReal := Ideal.ofBits .f32 0x40000000#32

/-- The zeroth feature map: the states of batch row `r`. -/
def X0 (y : Y) (r : Fin 1024) (n : Fin 207) (d : Fin 32) : EReal := y (ix2 r (col n d))
/-- The first feature map: the support times the zeroth. -/
def X1 (y : Y) (l : L) (r : Fin 1024) (n : Fin 207) (d : Fin 32) : EReal := ∑ p : Fin 207, l (ix2 n p) * X0 y r p d
/-- The second feature map, by the recurrence. -/
def X2 (y : Y) (l : L) (r : Fin 1024) (n : Fin 207) (d : Fin 32) : EReal :=
  two * (∑ p : Fin 207, l (ix2 n p) * X1 y l r p d) - X0 y r n d

/-- Feature map `m`. -/
def XS (y : Y) (l : L) (m : ℕ) (r : Fin 1024) (n : Fin 207) (d : Fin 32) : EReal :=
  match m with
  | 0 => X0 y r n d
  | 1 => X1 y l r n d
  | _ => X2 y l r n d

/-- What the mathematics puts at feature `e` of node `n` of batch row `r`. -/
def out (y : Y) (l : L) (w : W) (b : B) (r : Fin 1024) (n : Fin 207) (e : Fin 32) : EReal :=
  neg * ((∑ k : Fin 96, XS y l (k.val % 3) r n ⟨k.val / 3, by have := k.isLt; omega⟩ * w (ix2 k e)) + b (ix1 e))

end Cert.Plain

end
-- ==== Proof.HostVal.lean ====
module

public import proofs.«01_k».proof.Proof.HostOps
public import proofs.«01_k».proof.Proof.GVal
public import proofs.«01_k».proof.Proof.Plain
public import Idealize.ShloMosaic.Lib.ValueLayout
public import Idealize.ShloMosaic.Lib.IdealHost

@[expose] public section

set_option maxRecDepth 16384

noncomputable section

namespace Cert.KernelIdeal.Val

open Idealize.ShloMosaic Idealize.ShloMosaic.ValueIdx Cert.Plain
open Cert.KernelIdeal Cert.KernelIdeal.Gen

/-- The group of 32 an index of 256 lies in. -/
def grp (k : Fin 256) : Fin 8 := ⟨k.val / 32, by have := k.isLt; omega⟩
/-- An index of 256 within its group of 32. -/
def sub (k : Fin 256) : Fin 32 := ⟨k.val % 32, Nat.mod_lt _ (by decide)⟩
/-- Row `3 d + s` of the weights. -/
def third (s : Fin 3) (d : Fin 32) : Fin 96 := ⟨3 * d.val + s.val, by have := s.isLt; have := d.isLt; omega⟩

/-- The bit of an equality of two small words. -/
theorem eq_bit : ∀ a b : Fin 8, IntOp.cmpi .eq (IntOp.addi (BitVec.ofNat 32 a.val) 0#32) (BitVec.ofNat 32 b.val)
    = if a = b then 1#1 else 0#1 := by decide

/-- The identity at an index. -/
theorem eye_at (a b : Fin 8) : eye (F := Ideal) (ix2 a b) = if a = b then (1 : EReal) else 0 := by
  have h : eye (F := Ideal) (ix2 a b)
      = (((IntOp.cmpi .eq (IntOp.addi (BitVec.ofNat 32 a.val) 0#32) (BitVec.ofNat 32 b.val)).toNat : ℝ) : EReal) := rfl
  rw [h, eq_bit]
  by_cases e : a = b
  · rw [if_pos e, if_pos e]; simp
  · rw [if_neg e, if_neg e]; simp

/-- The Kronecker product at an index. -/
theorem kron_at (p : FVec Ideal S8x8 .f32) (q : FVec Ideal S32x32 .f32) (k j : Fin 256) :
    kron p q (ix2 k j) = p (ix2 (grp k) (grp j)) * q (ix2 (sub k) (sub j)) := by
  have := k.isLt; have := j.isLt
  unfold kron
  rw [shapeCast_apply _ _ _ (ix4 (grp k) (sub k) (grp j) (sub j)) (by
    rw [Shape.rowMajor_val_two, Shape.rowMajor_val_four]
    show (((k.val / 32) * 32 + k.val % 32) * 8 + j.val / 32) * 32 + j.val % 32 = k.val * 256 + j.val
    omega)]
  rw [mulf_apply]
  rw [broadcastInDim_apply _ _ (broadcastInDim S8x1x8x1 ![0, 2] bcast_S8x8_S8x1x8x1_0_2 p) _ (ix4 (grp k) 0 (grp j) 0) (fun a => by
    match a with | ⟨0, _⟩ => rfl | ⟨1, _⟩ => rfl | ⟨2, _⟩ => rfl | ⟨3, _⟩ => rfl)]
  rw [broadcastInDim_apply _ _ p _ (ix2 (grp k) (grp j)) (fun a => by
    match a with | ⟨0, _⟩ => rfl | ⟨1, _⟩ => rfl)]
  rw [broadcastInDim_apply _ _ (broadcastInDim S1x32x1x32 ![1, 3] bcast_S32x32_S1x32x1x32_1_3 q) _ (ix4 0 (sub k) 0 (sub j)) (fun a => by
    match a with | ⟨0, _⟩ => rfl | ⟨1, _⟩ => rfl | ⟨2, _⟩ => rfl | ⟨3, _⟩ => rfl)]
  rw [broadcastInDim_apply _ _ q _ (ix2 (sub k) (sub j)) (fun a => by
    match a with | ⟨0, _⟩ => rfl | ⟨1, _⟩ => rfl)]

/-- A scaled matrix at an index. -/
theorem scale_at (x : FVec Ideal S32x32 .f32) (i : S32x32.Idx) : scale x i = neg * x i := rfl

/-- Every third row, at an index. -/
theorem third0_at (w : FVec Ideal S96x32 .f32) (d e : Fin 32) : third0 w (ix2 d e) = w (ix2 (third 0 d) e) := by
  refine congrArg w (funext fun a => Fin.ext ?_)
  match a with
  | ⟨0, _⟩ => show 0 + 3 * d.val = 3 * d.val + 0; omega
  | ⟨1, _⟩ => show 0 + 1 * e.val = e.val; omega
/-- Every third row from row 1, at an index. -/
theorem third1_at (w : FVec Ideal S96x32 .f32) (d e : Fin 32) : third1 w (ix2 d e) = w (ix2 (third 1 d) e) := by
  refine congrArg w (funext fun a => Fin.ext ?_)
  match a with
  | ⟨0, _⟩ => show 1 + 3 * d.val = 3 * d.val + 1; omega
  | ⟨1, _⟩ => show 0 + 1 * e.val = e.val; omega
/-- Every third row from row 2, at an index. -/
theorem third2_at (w : FVec Ideal S96x32 .f32) (d e : Fin 32) : third2 w (ix2 d e) = w (ix2 (third 2 d) e) := by
  refine congrArg w (funext fun a => Fin.ext ?_)
  match a with
  | ⟨0, _⟩ => show 2 + 3 * d.val = 3 * d.val + 2; omega
  | ⟨1, _⟩ => show 0 + 1 * e.val = e.val; omega

/-- The bias row at an index. -/
theorem biasRow_at (b : FVec Ideal S32 .f32) (q : Fin 256) : biasRow b (ix2 0 q) = neg * b (ix1 (sub q)) := by
  have := q.isLt
  unfold biasRow
  rw [shapeCast_a_1a_apply]
  rw [shapeCast_apply _ _ _ (ix2 (grp q) (sub q)) (by
    rw [Shape.rowMajor_val_two, Shape.rowMajor_val_one]
    show (q.val / 32) * 32 + q.val % 32 = q.val
    omega)]
  rw [broadcastInDim_apply _ _ _ _ (ix2 0 (sub q)) (fun a => by
    match a with | ⟨0, _⟩ => rfl | ⟨1, _⟩ => rfl)]
  rw [shapeCast_a_1a_apply]
  rfl

variable (m : (ℓ : Loc nD τ sig) → Buf (Elt Ideal) ℓ)

/-- The rows step `t` reads, at an index. -/
theorem blk_at (c : Dev nD) (t : Fin cfg0.N) (y : Y) (r : Fin 1024) (i : Fin 128) (hr : r.val = 128 * t.val + i.val) (q : Fin 6624) :
    blk (F := Ideal) c t y (ix3 0 i q) = y (ix2 r q) := by
  have ht : t.val < 8 := lt_of_lt_of_eq t.isLt (show cfg0.N = 8 from N_0)
  unfold blk
  rw [shapeCast_ab_1ab_apply]
  refine congrArg y (funext fun a => Fin.ext ?_)
  match a with
  | ⟨0, _⟩ => show 128 * (t.val % 8) + 1 * i.val = r.val; omega
  | ⟨1, _⟩ => show 0 + 1 * q.val = q.val; omega

/-- Window 0's block is its whole array. -/
theorem iblk0 (c : Dev nD) (t : Fin cfg0.N) : (iblk m c 0 t : FVec Ideal S207x207 .bf16) = V m c main_v28 := by
  funext j
  refine congrArg (V m c main_v28) (funext fun a => Fin.ext ?_)
  exact Pipeline.Window.rect_emb_val_of_index_zero (win0 0) t a (by match a with | ⟨0, _⟩ => rfl | ⟨1, _⟩ => rfl) j
/-- Window 1's block is its whole array. -/
theorem iblk1 (c : Dev nD) (t : Fin cfg0.N) : (iblk m c 1 t : FVec Ideal S207x207 .bf16) = V m c main_v31 := by
  funext j
  refine congrArg (V m c main_v31) (funext fun a => Fin.ext ?_)
  exact Pipeline.Window.rect_emb_val_of_index_zero (win0 1) t a (by match a with | ⟨0, _⟩ => rfl | ⟨1, _⟩ => rfl) j
/-- Window 2's block is its whole array. -/
theorem iblk2 (c : Dev nD) (t : Fin cfg0.N) : (iblk m c 2 t : FVec Ideal S256x256 .bf16) = V m c main_v17 := by
  funext j
  refine congrArg (V m c main_v17) (funext fun a => Fin.ext ?_)
  exact Pipeline.Window.rect_emb_val_of_index_zero (win0 2) t a (by match a with | ⟨0, _⟩ => rfl | ⟨1, _⟩ => rfl) j
/-- Window 3's block is its whole array. -/
theorem iblk3 (c : Dev nD) (t : Fin cfg0.N) : (iblk m c 3 t : FVec Ideal S256x256 .bf16) = V m c main_v19 := by
  funext j
  refine congrArg (V m c main_v19) (funext fun a => Fin.ext ?_)
  exact Pipeline.Window.rect_emb_val_of_index_zero (win0 3) t a (by match a with | ⟨0, _⟩ => rfl | ⟨1, _⟩ => rfl) j
/-- Window 4's block is its whole array. -/
theorem iblk4 (c : Dev nD) (t : Fin cfg0.N) : (iblk m c 4 t : FVec Ideal S256x256 .bf16) = V m c main_v21 := by
  funext j
  refine congrArg (V m c main_v21) (funext fun a => Fin.ext ?_)
  exact Pipeline.Window.rect_emb_val_of_index_zero (win0 4) t a (by match a with | ⟨0, _⟩ => rfl | ⟨1, _⟩ => rfl) j
/-- Window 5's block is its whole array. -/
theorem iblk5 (c : Dev nD) (t : Fin cfg0.N) : (iblk m c 5 t : FVec Ideal S1x256 .f32) = V m c main_v27 := by
  funext j
  refine congrArg (V m c main_v27) (funext fun a => Fin.ext ?_)
  exact Pipeline.Window.rect_emb_val_of_index_zero (win0 5) t a (by match a with | ⟨0, _⟩ => rfl | ⟨1, _⟩ => rfl) j

end Cert.KernelIdeal.Val

end
-- ==== Proof.KernVal.lean ====
module

public import proofs.«01_k».proof.Proof.RingVal
public import proofs.«01_k».proof.Proof.Plain
public import Idealize.ShloMosaic.Lib.ValueLayout
public import Idealize.ShloMosaic.Lib.MatmulPlain

@[expose] public section

set_option maxRecDepth 16384

noncomputable section

namespace Cert.KernelIdeal.Val

open Idealize.ShloMosaic Idealize.ShloMosaic.ValueIdx Cert.Plain
open Cert.KernelIdeal Cert.KernelIdeal.Gen
open scoped BigOperators

/-- The row of the block a column of the wide tile belongs to. -/
def wrow (q : Fin 4096) : Fin 128 := ⟨q.val / 32, by have := q.isLt; omega⟩
/-- The feature a column of the wide tile holds. -/
def wfeat (q : Fin 4096) : Fin 32 := ⟨q.val % 32, Nat.mod_lt _ (by decide)⟩
/-- The wide tile's column of row `i` and feature `e`. -/
def wcol (i : Fin 128) (e : Fin 32) : Fin 4096 := ⟨32 * i.val + e.val, by have := i.isLt; have := e.isLt; omega⟩
/-- The wide tile's column `q` of chunk `j`. -/
def ccol (j : Fin 16) (q : Fin 256) : Fin 4096 := ⟨256 * j.val + q.val, by have := j.isLt; have := q.isLt; omega⟩
/-- The chunk a row's columns lie in. -/
def chunkOf (i : Fin 128) : Fin 16 := ⟨i.val / 8, by have := i.isLt; omega⟩
/-- The column within its chunk of row `i` and feature `e`. -/
def lane (i : Fin 128) (e : Fin 32) : Fin 256 := ⟨32 * (i.val % 8) + e.val, by have := e.isLt; omega⟩

/-- Row `i` of the block at node `n` and feature `d`. -/
theorem row_at (v : Vec Ideal S1x128x6624 .f32) (i : Fin 128) (n : Fin 207) (d : Fin 32) :
    row v i (ix2 n d) = v (ix3 0 i (col n d)) := by
  have := i.isLt; have := n.isLt; have := d.isLt
  unfold row
  rw [shapeCast_1ab_ab_apply]
  rw [extractStridedSlice_apply _ _ _ _ (ix3 i n d) (fun a => by
    match a with
    | ⟨0, _⟩ => show i.val = i.val + 0; omega
    | ⟨1, _⟩ => show n.val = 0 + n.val; omega
    | ⟨2, _⟩ => show d.val = 0 + d.val; omega)]
  unfold k0_pay1
  rw [shapeCast_apply _ _ _ (ix2 i (col n d)) (by
    rw [Shape.rowMajor_val_two, Shape.rowMajor_val_three]
    show i.val * 6624 + (32 * n.val + d.val) = (i.val * 207 + n.val) * 32 + d.val
    omega)]
  rw [truncf_apply, shapeCast_1ab_ab_apply]

/-- The rows laid side by side, at node `n` and column `q`. -/
theorem A0_at (v : Vec Ideal S1x128x6624 .f32) (n : Fin 207) (q : Fin 4096) :
    A0 v (ix2 n q) = v (ix3 0 (wrow q) (col n (wfeat q))) := by
  unfold A0
  rw [concatenate_ofFn_apply (t := S207x4096) 1 (row v) _ rfl 32 rfl (ix2 n q) (wrow q) rfl (ix2 n (wfeat q)) rfl (fun b hb => by
    match b with
    | ⟨0, _⟩ => rfl
    | ⟨1, _⟩ => exact absurd rfl hb)]
  exact row_at v (wrow q) n (wfeat q)

/-- A 207 by 207 matrix times a wide tile, at an index. -/
theorem hop_at (l : FVec Ideal S207x207 .bf16) (a : FVec Ideal S207x4096 .bf16) (n : Fin 207) (q : Fin 4096) :
    hop l a (ix2 n q) = ∑ p : Fin 207, l (ix2 n p) * a (ix2 p q) := by
  unfold hop
  rw [truncf_apply, shapeCast_self]
  refine (Ideal.matmul_plain_apply none l a _ n q).trans ?_
  rw [constant_apply]
  exact (congrArg (· + _) Ideal.ofBits_zero_f32).trans (zero_add _)

/-- A chunk times a 256 by 256 matrix, at an index. -/
theorem term_at (a : FVec Ideal S207x4096 .bf16) (w : FVec Ideal S256x256 .bf16) (j : Fin 16) (n : Fin 207) (q : Fin 256) :
    term a w j (ix2 n q) = ∑ k : Fin 256, a (ix2 n (ccol j k)) * w (ix2 k q) := by
  unfold term
  rw [shapeCast_self]
  refine (Ideal.matmul_plain_apply none _ w _ n q).trans ?_
  rw [constant_apply]
  refine ((congrArg (· + _) Ideal.ofBits_zero_f32).trans (zero_add _)).trans ?_
  refine Finset.sum_congr rfl fun k _ => ?_
  rw [slice2_axis1_apply (256 * j.val) a _ n k (ccol j k) rfl]

/-- A chunk of the output tile, at an index. -/
theorem chunk_at (a0 a1 a2 : FVec Ideal S207x4096 .bf16) (w0 w1 w2 : FVec Ideal S256x256 .bf16) (b : FVec Ideal S1x256 .f32)
    (j : Fin 16) (n : Fin 207) (q : Fin 256) :
    chunk a0 a1 a2 w0 w1 w2 b j (ix2 n q)
      = (((∑ k : Fin 256, a0 (ix2 n (ccol j k)) * w0 (ix2 k q)) + (∑ k : Fin 256, a1 (ix2 n (ccol j k)) * w1 (ix2 k q)))
          + (∑ k : Fin 256, a2 (ix2 n (ccol j k)) * w2 (ix2 k q))) + b (ix2 0 q) := by
  unfold chunk
  rw [truncf_apply, addf_apply, addf_apply, addf_apply, term_at, term_at, term_at, shapeCast_self, broadcastTo_1b_ab_apply]

/-- The output tile at row `i`'s columns is its chunk there. -/
theorem OT_at (a0 a1 a2 : FVec Ideal S207x4096 .bf16) (w0 w1 w2 : FVec Ideal S256x256 .bf16) (b : FVec Ideal S1x256 .f32)
    (n : Fin 207) (i : Fin 128) (e : Fin 32) :
    OT a0 a1 a2 w0 w1 w2 b (ix2 n (wcol i e)) = chunk a0 a1 a2 w0 w1 w2 b (chunkOf i) (ix2 n (lane i e)) := by
  have := e.isLt
  unfold OT
  exact concatenate_ofFn_apply (t := S207x4096) 1 (chunk a0 a1 a2 w0 w1 w2 b) _ rfl 256 rfl (ix2 n (wcol i e)) (chunkOf i)
    (show (32 * i.val + e.val) / 256 = i.val / 8 by omega) (ix2 n (lane i e))
    (show 32 * (i.val % 8) + e.val = (32 * i.val + e.val) % 256 by omega) (fun b hb => by
    match b with
    | ⟨0, _⟩ => rfl
    | ⟨1, _⟩ => exact absurd rfl hb)

/-- The stacked groups at row `i`, node `n` and feature `e`. -/
theorem stacked_at (o : FVec Ideal S207x4096 .bf16) (i : Fin 128) (n : Fin 207) (e : Fin 32) :
    stacked o (ix3 i n e) = o (ix2 n (wcol i e)) := by
  unfold stacked
  rw [concatenate_ofFn_unit_apply (t := S128x207x32) 0 (fun i : Fin 128 =>
      shapeCast S1x207x32 (extractStridedSlice S207x32 ![0, 32 * i.val] o (slOut i)) shapeCasts_S207x32_S1x207x32)
    _ rfl rfl (ix3 i n e) i rfl (ix3 0 n e) (fun b hb => by
    match b with
    | ⟨0, _⟩ => exact absurd rfl hb
    | ⟨1, _⟩ => rfl
    | ⟨2, _⟩ => rfl)]
  rw [shapeCast_ab_1ab_apply, slice2_axis1_apply (32 * i.val) o _ n e (wcol i e) rfl]

/-- What one grid step writes at row `i`, node `n` and feature `e`. -/
theorem outB_at (l l2 : FVec Ideal S207x207 .bf16) (w0 w1 w2 : FVec Ideal S256x256 .bf16) (b : FVec Ideal S1x256 .f32)
    (v : Vec Ideal S1x128x6624 .f32) (i : Fin 128) (n : Fin 207) (e : Fin 32) :
    outB l l2 w0 w1 w2 b v (ix2 i (col n e))
      = chunk (A0 v) (hop l (A0 v)) (hop l2 (hop l (A0 v))) w0 w1 w2 b (chunkOf i) (ix2 n (lane i e)) := by
  have := i.isLt; have := n.isLt; have := e.isLt
  unfold outB PAY
  rw [shapeCast_1ab_ab_apply, shapeCast_ab_1ab_apply, extf_apply]
  rw [shapeCast_apply _ _ _ (ix3 i n e) (by
    rw [Shape.rowMajor_val_two, Shape.rowMajor_val_three]
    show (i.val * 207 + n.val) * 32 + e.val = i.val * 6624 + (32 * n.val + e.val)
    omega)]
  rw [stacked_at, OT_at]

end Cert.KernelIdeal.Val

end
-- ==== Proof.KernEq.lean ====
module

public import proofs.«01_k».proof.Proof.HostVal
public import proofs.«01_k».proof.Proof.KernVal

@[expose] public section

set_option maxRecDepth 16384

noncomputable section

namespace Cert.KernelIdeal.Val

open Idealize.ShloMosaic Idealize.ShloMosaic.ValueIdx Cert.Plain
open Cert.KernelIdeal Cert.KernelIdeal.Gen
open scoped BigOperators

/-- The index of 256 at place `d` of group `a`. -/
def place (a : Fin 8) (d : Fin 32) : Fin 256 := ⟨32 * a.val + d.val, by have := a.isLt; have := d.isLt; omega⟩

/-- A sum over 256 indices is the sum over its groups and places. -/
theorem sum_place (f : Fin 256 → EReal) : ∑ k, f k = ∑ a : Fin 8, ∑ d : Fin 32, f (place a d) := by
  rw [← Fintype.sum_prod_type (f := fun x : Fin 8 × Fin 32 => f (place x.1 x.2))]
  refine (Equiv.sum_comp (finProdFinEquiv (m := 8) (n := 32)) f).symm.trans ?_
  refine Finset.sum_congr rfl fun x _ => congrArg f (Fin.ext ?_)
  show x.2.val + 32 * x.1.val = 32 * x.1.val + x.2.val
  omega

/-- The group of place `d` of group `a` is `a`. -/
theorem grp_place (a : Fin 8) (d : Fin 32) : grp (place a d) = a := by
  have := d.isLt
  exact Fin.ext (show (32 * a.val + d.val) / 32 = a.val by omega)
/-- Place `d` of group `a` is place `d`. -/
theorem sub_place (a : Fin 8) (d : Fin 32) : sub (place a d) = d := by
  have := d.isLt
  exact Fin.ext (show (32 * a.val + d.val) % 32 = d.val by omega)

/-- A row times a column of the identity's Kronecker product with `g` is one group of the row times `g`. -/
theorem sum_kron (f : Fin 256 → EReal) (g : FVec Ideal S32x32 .f32) (q : Fin 256) :
    ∑ k : Fin 256, f k * kron eye g (ix2 k q) = ∑ d : Fin 32, f (place (grp q) d) * g (ix2 d (sub q)) := by
  rw [sum_place, Finset.sum_eq_single (grp q)]
  · refine Finset.sum_congr rfl fun d _ => ?_
    rw [kron_at, eye_at, grp_place, sub_place, if_pos rfl]
    exact congrArg (f _ * ·) (one_mul _)
  · intro a _ ha
    refine Finset.sum_eq_zero fun d _ => ?_
    rw [kron_at, eye_at, grp_place, sub_place, if_neg ha]
    exact (congrArg (f _ * ·) (zero_mul _)).trans (mul_zero _)
  · intro h; exact absurd (Finset.mem_univ _) h

/-- The same, of the product rounded. -/
theorem sum_kron_trunc (f : Fin 256 → EReal) (g : FVec Ideal S32x32 .f32) (q : Fin 256) :
    ∑ k : Fin 256, f k * truncf .bf16 (kron eye g) bitsLt_bf16_f32 (ix2 k q) = ∑ d : Fin 32, f (place (grp q) d) * g (ix2 d (sub q)) :=
  sum_kron f g q

/-- The group of row `i`'s columns within their chunk. -/
def grpOf (i : Fin 128) : Fin 8 := ⟨i.val % 8, Nat.mod_lt _ (by decide)⟩

/-- Row `i`'s columns lie in its group. -/
theorem grp_lane (i : Fin 128) (e : Fin 32) : grp (lane i e) = grpOf i := by
  have := e.isLt
  exact Fin.ext (show (32 * (i.val % 8) + e.val) / 32 = i.val % 8 by omega)
/-- Feature `e`'s column is at place `e`. -/
theorem sub_lane (i : Fin 128) (e : Fin 32) : sub (lane i e) = e := by
  have := e.isLt
  exact Fin.ext (show (32 * (i.val % 8) + e.val) % 32 = e.val by omega)
/-- The places of row `i`'s group, within row `i`'s chunk, are row `i`'s columns. -/
theorem ccol_place (i : Fin 128) (d : Fin 32) : ccol (chunkOf i) (place (grpOf i) d) = wcol i d :=
  Fin.ext (show 256 * (i.val / 8) + (32 * (i.val % 8) + d.val) = 32 * i.val + d.val by omega)
/-- Row `i`'s columns belong to row `i`. -/
theorem wrow_wcol (i : Fin 128) (d : Fin 32) : wrow (wcol i d) = i := by
  have := d.isLt
  exact Fin.ext (show (32 * i.val + d.val) / 32 = i.val by omega)
/-- Feature `d`'s column holds feature `d`. -/
theorem wfeat_wcol (i : Fin 128) (d : Fin 32) : wfeat (wcol i d) = d := by
  have := d.isLt
  exact Fin.ext (show (32 * i.val + d.val) % 32 = d.val by omega)

/-- The doubled support times the first feature map. -/
def Z (y : Y) (l : L) (r : Fin 1024) (n : Fin 207) (d : Fin 32) : EReal := ∑ p : Fin 207, (two * l (ix2 n p)) * X1 y l r p d

/-- What the kernel puts at feature `e` of node `n` of batch row `r`. -/
def kout (y : Y) (l : L) (w : W) (b : B) (r : Fin 1024) (n : Fin 207) (e : Fin 32) : EReal :=
  (((∑ d : Fin 32, X0 y r n d * (neg * w (ix2 (third 0 d) e) - neg * w (ix2 (third 2 d) e)))
      + (∑ d : Fin 32, X1 y l r n d * (neg * w (ix2 (third 1 d) e))))
    + (∑ d : Fin 32, Z y l r n d * (neg * w (ix2 (third 2 d) e)))) + neg * b (ix1 e)

/-- What one step writes, from the arrays the host prepares. -/
theorem step_at (y : Y) (l : L) (w : W) (b : B) (l1 l2 : FVec Ideal S207x207 .bf16) (w0 w1 w2 : FVec Ideal S256x256 .bf16)
    (bb : FVec Ideal S1x256 .f32) (v : Vec Ideal S1x128x6624 .f32) (r : Fin 1024) (i : Fin 128) (n : Fin 207) (e : Fin 32)
    (hl1 : ∀ j, l1 j = l j) (hl2 : ∀ j, l2 j = two * l j)
    (hw0 : w0 = truncf .bf16 (kron eye (subf (scale (third0 w)) (scale (third2 w)))) bitsLt_bf16_f32)
    (hw1 : w1 = truncf .bf16 (kron eye (scale (third1 w))) bitsLt_bf16_f32)
    (hw2 : w2 = truncf .bf16 (kron eye (scale (third2 w))) bitsLt_bf16_f32) (hb : bb = biasRow b)
    (hv : ∀ q, v (ix3 0 i q) = y (ix2 r q)) :
    outB l1 l2 w0 w1 w2 bb v (ix2 i (col n e)) = kout y l w b r n e := by
  have a0 : ∀ (n : Fin 207) (d : Fin 32), A0 v (ix2 n (wcol i d)) = X0 y r n d := by
    intro n d; rw [A0_at, wrow_wcol, wfeat_wcol, hv]; rfl
  have a1 : ∀ (n : Fin 207) (d : Fin 32), hop l1 (A0 v) (ix2 n (wcol i d)) = X1 y l r n d := by
    intro n d; rw [hop_at]
    refine Finset.sum_congr rfl fun p _ => ?_
    rw [hl1, a0]
  have a2 : ∀ (n : Fin 207) (d : Fin 32), hop l2 (hop l1 (A0 v)) (ix2 n (wcol i d)) = Z y l r n d := by
    intro n d; rw [hop_at]
    refine Finset.sum_congr rfl fun p _ => ?_
    rw [hl2, a1]
  rw [outB_at, chunk_at, hw0, hw1, hw2, hb, sum_kron_trunc, sum_kron_trunc, sum_kron_trunc, biasRow_at, grp_lane, sub_lane]
  unfold kout
  refine congrArg₂ (· + ·) (congrArg₂ (· + ·) (congrArg₂ (· + ·) ?_ ?_) ?_) rfl
  · refine Finset.sum_congr rfl fun d _ => ?_
    rw [ccol_place, a0, subf_apply, scale_at, scale_at, third0_at, third2_at]
  · refine Finset.sum_congr rfl fun d _ => ?_
    rw [ccol_place, a1, scale_at, third1_at]
  · refine Finset.sum_congr rfl fun d _ => ?_
    rw [ccol_place, a2, scale_at, third2_at]

variable (m : (ℓ : Loc nD τ sig) → Buf (Elt Ideal) ℓ)

/-- The kernel's result at an index, from the arguments. -/
theorem Gv_at (c : Dev nD) (r : Fin 1024) (n : Fin 207) (e : Fin 32) :
    (Gv m c : Y) (ix2 r (col n e)) = kout (m ((c.tc : Thread nD τ).loc main_arg1)) (m ((c.tc : Thread nD τ).loc main_arg2))
      (m ((c.tc : Thread nD τ).loc main_arg3)) (m ((c.tc : Thread nD τ).loc main_arg4)) r n e := by
  have hi : r.val % 128 < 128 := Nat.mod_lt _ (by decide)
  refine step_at _ _ _ _ _ _ _ _ _ _ _ r ⟨r.val % 128, hi⟩ n e ?_ ?_ ?_ ?_ ?_ ?_ ?_
  · intro j; rw [iblk0, V_28]; rfl
  · intro j; rw [iblk1, V_31]; rfl
  · rw [iblk2, V_17]
  · rw [iblk3, V_19]
  · rw [iblk4, V_21]
  · rw [iblk5, V_27]
  · intro q
    rw [V_arg1]
    exact blk_at c (stepOf r) _ r ⟨r.val % 128, hi⟩ (show r.val = 128 * (r.val / 128) + r.val % 128 by omega) q

end Cert.KernelIdeal.Val

end
-- ==== Proof.Algebra.lean ====
module

public import proofs.«01_k».proof.Proof.KernEq

@[expose] public section

set_option maxRecDepth 16384

noncomputable section

namespace Cert.KernelIdeal.Val

open Idealize.ShloMosaic Idealize.ShloMosaic.ValueIdx Cert.Plain
open scoped BigOperators

/-- The step's factor is a negative real. -/
theorem neg_real : ∃ a : ℝ, a < 0 ∧ neg = ((a : ℝ) : EReal) := by
  refine ⟨_, ?_, (by unfold neg; simp [Ideal.ofBits, Ideal.ieee]; rfl)⟩
  norm_num

/-- The recurrence's factor is two. -/
theorem two_real : two = ((2 : ℝ) : EReal) := by
  unfold two; simp [Ideal.ofBits, Ideal.ieee]; rw [← EReal.coe_mul]; norm_num

/-- A sum over 96 indices is the sum over 32 triples. -/
theorem sum_third (f : Fin 96 → ℝ) : ∑ k, f k = ∑ d : Fin 32, ∑ s : Fin 3, f (third s d) := by
  rw [← Fintype.sum_prod_type (f := fun x : Fin 32 × Fin 3 => f (third x.2 x.1))]
  refine (Equiv.sum_comp (finProdFinEquiv (m := 32) (n := 3)) f).symm.trans ?_
  refine Finset.sum_congr rfl fun x _ => congrArg f (Fin.ext ?_)
  show x.2.val + 3 * x.1.val = 3 * x.1.val + x.2.val
  omega

/-- A negative real distributes over a real plus any extended real. -/
theorem mul_real_add (a : ℝ) (ha : a < 0) (R : ℝ) (b : EReal) :
    ((a : ℝ) : EReal) * (((R : ℝ) : EReal) + b) = ((a * R : ℝ) : EReal) + ((a : ℝ) : EReal) * b := by
  induction b with
  | bot => rw [EReal.add_bot, EReal.coe_mul_bot_of_neg ha, EReal.coe_add_top]
  | top => rw [EReal.coe_add_top, EReal.coe_mul_top_of_neg ha, EReal.add_bot]
  | coe x => rw [← EReal.coe_add, ← EReal.coe_mul, ← EReal.coe_mul, ← EReal.coe_add, mul_add]

/-- The coercion of a finite sum of reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section
variable (y : (⟨2, ![1024, 6624]⟩ : Shape).Idx → ℝ) (l : (⟨2, ![207, 207]⟩ : Shape).Idx → ℝ) (w : (⟨2, ![96, 32]⟩ : Shape).Idx → ℝ)

/-- The first feature map, of real states and support. -/
def x1R (r : Fin 1024) (n : Fin 207) (d : Fin 32) : ℝ := ∑ p : Fin 207, l (ix2 n p) * y (ix2 r (col p d))
/-- The support times the first feature map, of real states and support. -/
def x2R (r : Fin 1024) (n : Fin 207) (d : Fin 32) : ℝ := ∑ p : Fin 207, l (ix2 n p) * x1R y l r p d

/-- Feature map `m`, of real states and support. -/
def xsR (m : ℕ) (r : Fin 1024) (n : Fin 207) (d : Fin 32) : ℝ :=
  match m with
  | 0 => y (ix2 r (col n d))
  | 1 => x1R y l r n d
  | _ => 2 * x2R y l r n d - y (ix2 r (col n d))

/-- The first feature map of reals is real. -/
theorem X1_real (r : Fin 1024) (n : Fin 207) (d : Fin 32) :
    X1 (fun i => ((y i : ℝ) : EReal)) (fun i => ((l i : ℝ) : EReal)) r n d = ((x1R y l r n d : ℝ) : EReal) := by
  unfold X1 x1R X0
  rw [coe_sum]
  exact Finset.sum_congr rfl fun p _ => (EReal.coe_mul _ _).symm

/-- The doubled support times the first feature map, of reals, is twice a real sum. -/
theorem Z_real (r : Fin 1024) (n : Fin 207) (d : Fin 32) :
    Z (fun i => ((y i : ℝ) : EReal)) (fun i => ((l i : ℝ) : EReal)) r n d = ((2 * x2R y l r n d : ℝ) : EReal) := by
  unfold Z x2R
  rw [Finset.mul_sum, coe_sum]
  refine Finset.sum_congr rfl fun p _ => ?_
  rw [X1_real, two_real, ← EReal.coe_mul, ← EReal.coe_mul, mul_assoc]

/-- The second feature map of reals is real. -/
theorem X2_real (r : Fin 1024) (n : Fin 207) (d : Fin 32) :
    X2 (fun i => ((y i : ℝ) : EReal)) (fun i => ((l i : ℝ) : EReal)) r n d = ((2 * x2R y l r n d - y (ix2 r (col n d)) : ℝ) : EReal) := by
  have h : (∑ p : Fin 207, ((l (ix2 n p) : ℝ) : EReal) * X1 (fun i => ((y i : ℝ) : EReal)) (fun i => ((l i : ℝ) : EReal)) r p d)
      = ((x2R y l r n d : ℝ) : EReal) := by
    unfold x2R
    rw [coe_sum]
    refine Finset.sum_congr rfl fun p _ => ?_
    rw [X1_real, ← EReal.coe_mul]
  unfold X2
  rw [h, two_real, EReal.coe_sub, EReal.coe_mul]
  unfold X0
  rfl

/-- Every feature map of reals is real. -/
theorem XS_real (m : ℕ) (r : Fin 1024) (n : Fin 207) (d : Fin 32) :
    XS (fun i => ((y i : ℝ) : EReal)) (fun i => ((l i : ℝ) : EReal)) m r n d = ((xsR y l m r n d : ℝ) : EReal) := by
  match m with
  | 0 => unfold XS xsR X0; rfl
  | 1 => unfold XS xsR; exact X1_real y l r n d
  | k + 2 => unfold XS xsR; exact X2_real y l r n d

/-- The equation, of real states, support and weights and any bias. -/
theorem kout_eq_out_real (b : B) (r : Fin 1024) (n : Fin 207) (e : Fin 32) :
    kout (fun i => ((y i : ℝ) : EReal)) (fun i => ((l i : ℝ) : EReal)) (fun i => ((w i : ℝ) : EReal)) b r n e
      = out (fun i => ((y i : ℝ) : EReal)) (fun i => ((l i : ℝ) : EReal)) (fun i => ((w i : ℝ) : EReal)) b r n e := by
  obtain ⟨a, ha, hn⟩ := neg_real
  have hout : (∑ k : Fin 96, XS (fun i => ((y i : ℝ) : EReal)) (fun i => ((l i : ℝ) : EReal)) (k.val % 3) r n
        ⟨k.val / 3, by have := k.isLt; omega⟩ * ((w (ix2 k e) : ℝ) : EReal))
      = ((∑ d : Fin 32, (y (ix2 r (col n d)) * w (ix2 (third 0 d) e) + x1R y l r n d * w (ix2 (third 1 d) e)
          + (2 * x2R y l r n d - y (ix2 r (col n d))) * w (ix2 (third 2 d) e)) : ℝ) : EReal) := by
    have h1 : ∀ k : Fin 96, XS (fun i => ((y i : ℝ) : EReal)) (fun i => ((l i : ℝ) : EReal)) (k.val % 3) r n
        ⟨k.val / 3, by have := k.isLt; omega⟩ * ((w (ix2 k e) : ℝ) : EReal)
        = ((xsR y l (k.val % 3) r n ⟨k.val / 3, by have := k.isLt; omega⟩ * w (ix2 k e) : ℝ) : EReal) := by
      intro k; rw [XS_real, ← EReal.coe_mul]
    rw [Finset.sum_congr rfl fun k _ => h1 k, ← coe_sum, sum_third]
    refine congrArg _ (Finset.sum_congr rfl fun d _ => ?_)
    have hd : ∀ s : Fin 3, xsR y l ((third s d).val % 3) r n ⟨(third s d).val / 3, by have := (third s d).isLt; omega⟩
        = xsR y l s.val r n d := by
      intro s
      have := s.isLt
      have e1 : (third s d).val % 3 = s.val := by show (3 * d.val + s.val) % 3 = s.val; omega
      have e2 : (⟨(third s d).val / 3, by have := (third s d).isLt; omega⟩ : Fin 32) = d :=
        Fin.ext (show (3 * d.val + s.val) / 3 = d.val by omega)
      rw [e1, e2]
    rw [Fin.sum_univ_three, hd, hd, hd]
    rfl
  have h0 : ∀ d : Fin 32, X0 (fun i => ((y i : ℝ) : EReal)) r n d
        * (neg * ((w (ix2 (third 0 d) e) : ℝ) : EReal) - neg * ((w (ix2 (third 2 d) e) : ℝ) : EReal))
      = ((y (ix2 r (col n d)) * (a * w (ix2 (third 0 d) e) - a * w (ix2 (third 2 d) e)) : ℝ) : EReal) := by
    intro d; rw [hn, EReal.coe_mul, EReal.coe_sub, EReal.coe_mul, EReal.coe_mul]; rfl
  have h1 : ∀ d : Fin 32, X1 (fun i => ((y i : ℝ) : EReal)) (fun i => ((l i : ℝ) : EReal)) r n d * (neg * ((w (ix2 (third 1 d) e) : ℝ) : EReal))
      = ((x1R y l r n d * (a * w (ix2 (third 1 d) e)) : ℝ) : EReal) := by
    intro d; rw [hn, X1_real, ← EReal.coe_mul, ← EReal.coe_mul]
  have h2 : ∀ d : Fin 32, Z (fun i => ((y i : ℝ) : EReal)) (fun i => ((l i : ℝ) : EReal)) r n d * (neg * ((w (ix2 (third 2 d) e) : ℝ) : EReal))
      = ((2 * x2R y l r n d * (a * w (ix2 (third 2 d) e)) : ℝ) : EReal) := by
    intro d; rw [hn, Z_real, ← EReal.coe_mul, ← EReal.coe_mul]
  unfold kout out
  rw [hout, Finset.sum_congr rfl fun d _ => h0 d, Finset.sum_congr rfl fun d _ => h1 d, Finset.sum_congr rfl fun d _ => h2 d,
    ← coe_sum, ← coe_sum, ← coe_sum, ← EReal.coe_add, ← EReal.coe_add, hn, mul_real_add a ha]
  refine congrArg (· + _) (congrArg _ ?_)
  rw [← Finset.sum_add_distrib, ← Finset.sum_add_distrib, Finset.mul_sum]
  refine Finset.sum_congr rfl fun d _ => ?_
  ring
end

/-- The kernel's formula is the mathematics' where the states, the support and the weights are reals. -/
theorem kout_eq_out (y : Y) (l : L) (w : W) (b : B) (hy : ∀ i, y i = ((y i).toReal : EReal)) (hl : ∀ i, l i = ((l i).toReal : EReal))
    (hw : ∀ i, w i = ((w i).toReal : EReal)) (r : Fin 1024) (n : Fin 207) (e : Fin 32) : kout y l w b r n e = out y l w b r n e := by
  have ey : y = fun i => ((y i).toReal : EReal) := funext hy
  have el : l = fun i => ((l i).toReal : EReal) := funext hl
  have ew : w = fun i => ((w i).toReal : EReal) := funext hw
  rw [ey, el, ew]
  exact kout_eq_out_real _ _ _ b r n e

end Cert.KernelIdeal.Val

end
-- ==== Proof.RefVal.lean ====
module

public import proofs.«01_k».proof.Proof.Gen.ReferenceIdeal.Read
public import proofs.«01_k».proof.Proof.Plain

@[expose] public section

set_option maxRecDepth 16384

noncomputable section

namespace Cert.ReferenceIdeal.Val

open Idealize.ShloMosaic Idealize.ShloMosaic.ValueIdx
open Cert.ReferenceIdeal Cert.ReferenceIdeal.Gen Cert.ReferenceIdeal.Read Cert.Plain
open scoped BigOperators

/-- The column of the wide matrices that holds feature `d` of batch row `r`. -/
def wide (r : Fin 1024) (d : Fin 32) : Fin 32768 := ⟨1024 * d.val + r.val, by have := r.isLt; have := d.isLt; omega⟩

variable (y : Y) (l : L) (w : W) (b : B)

/-- The zeroth wide matrix holds the states. -/
theorem v2_at (r : Fin 1024) (n : Fin 207) (d : Fin 32) : val_main_v2 (F := Ideal) y (ix2 n (wide r d)) = X0 y r n d := by
  have := r.isLt; have := n.isLt; have := d.isLt
  have e2 : idx_main_v2 (ix2 n (wide r d)) = ix3 n d r := by
    funext a
    match a with
    | ⟨0, _⟩ => exact Fin.ext (show (n.val * 32768 + (1024 * d.val + r.val)) / 32768 = n.val by omega)
    | ⟨1, _⟩ => exact Fin.ext (show (n.val * 32768 + (1024 * d.val + r.val)) / 1024 % 32 = d.val by omega)
    | ⟨2, _⟩ => exact Fin.ext (show (n.val * 32768 + (1024 * d.val + r.val)) % 1024 = r.val by omega)
  have e1 : idx_main_v1 (ix3 n d r) = ix3 r n d := by
    funext a; match a with | ⟨0, _⟩ => rfl | ⟨1, _⟩ => rfl | ⟨2, _⟩ => rfl
  have e0 : idx_main_v0 (ix3 r n d) = ix2 r (col n d) := by
    funext a
    match a with
    | ⟨0, _⟩ => exact Fin.ext (show ((r.val * 207 + n.val) * 32 + d.val) / 6624 = r.val by omega)
    | ⟨1, _⟩ => exact Fin.ext (show ((r.val * 207 + n.val) * 32 + d.val) % 6624 = 32 * n.val + d.val by omega)
  rw [val_main_v2_apply, e2, val_main_v1_apply, e1, val_main_v0_apply, e0]
  rfl

/-- The first wide matrix holds the first feature map. -/
theorem v3_at (r : Fin 1024) (n : Fin 207) (d : Fin 32) : val_main_v3 (F := Ideal) y l (ix2 n (wide r d)) = X1 y l r n d := by
  rw [val_main_v3_apply]
  unfold X1
  refine Finset.sum_congr rfl fun p _ => ?_
  rw [← v2_at]
  congr 2
  · funext a; match a with | ⟨0, _⟩ => rfl | ⟨1, _⟩ => rfl
  · funext a; match a with | ⟨0, _⟩ => rfl | ⟨1, _⟩ => rfl

/-- The support times the first wide matrix. -/
theorem v4_at (r : Fin 1024) (n : Fin 207) (d : Fin 32) :
    val_main_v4 (F := Ideal) y l (ix2 n (wide r d)) = ∑ p : Fin 207, l (ix2 n p) * X1 y l r p d := by
  rw [val_main_v4_apply]
  refine Finset.sum_congr rfl fun p _ => ?_
  rw [← v3_at]
  congr 2
  · funext a; match a with | ⟨0, _⟩ => rfl | ⟨1, _⟩ => rfl
  · funext a; match a with | ⟨0, _⟩ => rfl | ⟨1, _⟩ => rfl

/-- The second wide matrix holds the second feature map. -/
theorem v7_at (r : Fin 1024) (n : Fin 207) (d : Fin 32) : val_main_v7 (F := Ideal) y l (ix2 n (wide r d)) = X2 y l r n d := by
  rw [val_main_v7_apply, val_main_v6_apply, v2_at, v4_at, val_main_v5_apply, val_main_cst_apply]
  rfl

/-- The three wide matrices, stacked. -/
theorem v11_at (m : Fin 3) (r : Fin 1024) (n : Fin 207) (d : Fin 32) :
    val_main_v11 (F := Ideal) y l (ix3 m n (wide r d)) = XS y l m.val r n d := by
  have h := concatenate_ofFn_unit_apply (α := EReal) (t := S3x207x32768) (s₁ := S1x207x32768) 0
    ![val_main_v8 (F := Ideal) y, val_main_v9 (F := Ideal) y l, val_main_v10 (F := Ideal) y l]
    concatenates_S1x207x32768_S1x207x32768_S1x207x32768_S3x207x32768_d0 rfl rfl (ix3 m n (wide r d)) m rfl
    (ix3 0 n (wide r d)) (by
      intro c hc
      match c, hc with
      | ⟨0, _⟩, hc => exact absurd rfl hc
      | ⟨1, _⟩, _ => rfl
      | ⟨2, _⟩, _ => rfl)
  refine Eq.trans ?_ (h.trans ?_)
  · rfl
  · match m with
    | ⟨0, _⟩ =>
      show val_main_v8 (F := Ideal) y _ = X0 y r n d
      rw [val_main_v8_apply, ← v2_at]; congr 1; funext a; match a with | ⟨0, _⟩ => rfl | ⟨1, _⟩ => rfl
    | ⟨1, _⟩ =>
      show val_main_v9 (F := Ideal) y l _ = X1 y l r n d
      rw [val_main_v9_apply, ← v3_at]; congr 1; funext a; match a with | ⟨0, _⟩ => rfl | ⟨1, _⟩ => rfl
    | ⟨2, _⟩ =>
      show val_main_v10 (F := Ideal) y l _ = X2 y l r n d
      rw [val_main_v10_apply, ← v7_at]; congr 1; funext a; match a with | ⟨0, _⟩ => rfl | ⟨1, _⟩ => rfl

/-- The row of the flattened feature matrix for batch row `r` and node `n`. -/
def flat (r : Fin 1024) (n : Fin 207) : Fin 211968 := ⟨207 * r.val + n.val, by have := r.isLt; have := n.isLt; omega⟩

/-- The flattened feature matrix: column `3 d + m` is feature `d` of map `m`. -/
theorem v14_at (r : Fin 1024) (n : Fin 207) (k : Fin 96) :
    val_main_v14 (F := Ideal) y l (ix2 (flat r n) k)
      = XS y l (k.val % 3) r n ⟨k.val / 3, by have := k.isLt; omega⟩ := by
  have := r.isLt; have := n.isLt; have := k.isLt
  obtain ⟨d, hd⟩ : ∃ d : Fin 32, d = ⟨k.val / 3, by omega⟩ := ⟨_, rfl⟩
  obtain ⟨m, hm⟩ : ∃ m : Fin 3, m = ⟨k.val % 3, by omega⟩ := ⟨_, rfl⟩
  have hk : k.val = 3 * d.val + m.val := by rw [hd, hm]; show k.val = 3 * (k.val / 3) + k.val % 3; omega
  have := d.isLt; have := m.isLt
  have e2 : idx_main_v14 (ix2 (flat r n) k) = ix4 r n d m := by
    funext a
    match a with
    | ⟨0, _⟩ => exact Fin.ext (show ((207 * r.val + n.val) * 96 + k.val) / 19872 = r.val by omega)
    | ⟨1, _⟩ => exact Fin.ext (show ((207 * r.val + n.val) * 96 + k.val) / 96 % 207 = n.val by omega)
    | ⟨2, _⟩ => exact Fin.ext (show ((207 * r.val + n.val) * 96 + k.val) / 3 % 32 = d.val by omega)
    | ⟨3, _⟩ => exact Fin.ext (show ((207 * r.val + n.val) * 96 + k.val) % 3 = m.val by omega)
  have e1 : idx_main_v13 (ix4 r n d m) = ix4 m n d r := by
    funext a; match a with | ⟨0, _⟩ => rfl | ⟨1, _⟩ => rfl | ⟨2, _⟩ => rfl | ⟨3, _⟩ => rfl
  have e0 : idx_main_v12 (ix4 m n d r) = ix3 m n (wide r d) := by
    funext a
    match a with
    | ⟨0, _⟩ => exact Fin.ext (show (((m.val * 207 + n.val) * 32 + d.val) * 1024 + r.val) / 6782976 = m.val by omega)
    | ⟨1, _⟩ => exact Fin.ext (show (((m.val * 207 + n.val) * 32 + d.val) * 1024 + r.val) / 32768 % 207 = n.val by
        rw [show (((m.val * 207 + n.val) * 32 + d.val) * 1024 + r.val) / 32768 = m.val * 207 + n.val by omega]; omega)
    | ⟨2, _⟩ => exact Fin.ext (show (((m.val * 207 + n.val) * 32 + d.val) * 1024 + r.val) % 32768 = 1024 * d.val + r.val by omega)
  rw [val_main_v14_apply, e2, val_main_v13_apply, e1, val_main_v12_apply, e0, v11_at, hd, hm]

/-- The reference's result, at feature `e` of node `n` of batch row `r`. -/
theorem out_at (r : Fin 1024) (n : Fin 207) (e : Fin 32) :
    val_main_v21 (F := Ideal) y l w b (ix2 r (col n e)) = out y l w b r n e := by
  have hi : idx_main_v19 (ix2 r (col n e)) = ix2 (flat r n) e := by
    obtain ⟨i, hi⟩ : ∃ i : S1024x6624.Idx, i = ix2 r (col n e) := ⟨_, rfl⟩
    have g0 : (i 0).val = r.val := by subst hi; rfl
    have g1 : (i 1).val = 32 * n.val + e.val := by subst hi; rfl
    rw [← hi]
    funext a
    have := r.isLt; have := n.isLt; have := e.isLt
    match a with
    | ⟨0, _⟩ => refine Fin.ext (show _ = 207 * r.val + n.val from ?_); dsimp only; omega
    | ⟨1, _⟩ => refine Fin.ext (show _ = e.val from ?_); dsimp only; omega
  rw [val_main_v21_apply, val_main_v20_apply, val_main_cst_0_apply, val_main_v19_apply, hi, val_main_v18_apply,
    val_main_v15_apply, val_main_v17_apply, val_main_v16_apply]
  have hs : ∀ k : Fin 96, val_main_v14 (F := Ideal) y l (lidx_main_v15 (ix2 (flat r n) e) k)
      * w (ridx_main_v15 (ix2 (flat r n) e) k)
      = XS y l (k.val % 3) r n ⟨k.val / 3, by have := k.isLt; omega⟩ * w (ix2 k e) := fun k => by
    rw [← v14_at]
    congr 2
    · funext a; match a with | ⟨0, _⟩ => rfl | ⟨1, _⟩ => rfl
    · funext a; match a with | ⟨0, _⟩ => rfl | ⟨1, _⟩ => rfl
  rw [Finset.sum_congr rfl fun k _ => hs k]
  have hb : b (idx_main_v16 (idx_main_v17 (ix2 (flat r n) e))) = b (ix1 e) := by
    congr 1; funext a; match a with | ⟨0, _⟩ => rfl
  rw [hb]
  rfl

end Cert.ReferenceIdeal.Val

end
-- ==== Proof.PreFin.lean ====
module

public import proofs.«01_k».proof.Pre_finite
public import proofs.«01_k».proof.Proof.Plain
public import Idealize.ShloMosaic.Lib.ReduceAll
public import Idealize.ShloMosaic.Lib.IdealHost

@[expose] public section

set_option maxRecDepth 16384

noncomputable section

namespace Cert.Pre_finite

open Idealize.ShloMosaic Idealize.ShloMosaic.ValueIdx Cert.Plain

/-- The shapes the precondition names relate as it asks. -/
theorem facts : Facts where
  bcast_S_S1024x6624 := by decide
  reducesTo_S1024x6624_S_d0_1 := by decide
  h_S_ := by decide
  bcast_S_S207x207 := by decide
  reducesTo_S207x207_S_d0_1 := by decide
  bcast_S_S96x32 := by decide
  reducesTo_S96x32_S_d0_1 := by decide

/-- The bound the precondition compares with is the greatest extended real. -/
theorem inf_eq : Ideal.ofBits .f32 0x7F800000#32 = ⊤ := by
  simp [Ideal.ofBits, Ideal.ieee]

/-- An extended real whose absolute value is below the greatest is a real. -/
theorem real_of_abs (x : EReal) (h : Ideal.cmp .olt (max x (-x)) ⊤ = 1#1) : x = ((x.toReal : ℝ) : EReal) := by
  have hx : max x (-x) < ⊤ := by
    by_contra hn
    have : Ideal.cmp .olt (max x (-x)) ⊤ = 0#1 := by simp only [Ideal.cmp, decide_eq_false hn]; rfl
    rw [this] at h
    exact absurd h (by decide)
  have h1 : x ≠ ⊤ := fun e => by subst e; simp at hx
  have h2 : x ≠ ⊥ := fun e => by subst e; simp at hx
  exact (EReal.coe_toReal h1 h2).symm

/-- Both of two one-bit words are 1 when their conjunction is. -/
theorem and_one : ∀ a b : BitVec 1, IntOp.andi a b = 1#1 → a = 1#1 ∧ b = 1#1 := by decide

/-- Under the precondition every state, support entry and weight is a real number. -/
theorem finite_of [Facts] (t : IVec S_ 32) (y : Y) (l : L) (w : W) (b : B)
    (h : fn (F := Ideal) t y l w b = fun _ => 1#1) :
    (∀ i, y i = ((y i).toReal : EReal)) ∧ (∀ i, l i = ((l i).toReal : EReal)) ∧ (∀ i, w i = ((w i).toReal : EReal)) := by
  have h0 := congrFun h ix0
  have : Subsingleton S_.Idx := ⟨fun a b => (eq_ix0 a).trans (eq_ix0 b).symm⟩
  dsimp only [fn] at h0
  obtain ⟨h1, hw⟩ := and_one _ _ h0
  obtain ⟨hy, hl⟩ := and_one _ _ h1
  refine ⟨fun i => ?_, fun i => ?_, fun i => ?_⟩
  · have e := Host.reduce_andi_all _ _ _ _ _ hy i
    rw [cmpf_apply, broadcastInDim_scalar_apply, constant_apply] at e
    exact real_of_abs _ ((congrArg (Ideal.cmp .olt _) inf_eq).symm.trans e)
  · have e := Host.reduce_andi_all _ _ _ _ _ hl i
    rw [cmpf_apply, broadcastInDim_scalar_apply, constant_apply] at e
    exact real_of_abs _ ((congrArg (Ideal.cmp .olt _) inf_eq).symm.trans e)
  · have e := Host.reduce_andi_all _ _ _ _ _ hw i
    rw [cmpf_apply, broadcastInDim_scalar_apply, constant_apply] at e
    exact real_of_abs _ ((congrArg (Ideal.cmp .olt _) inf_eq).symm.trans e)

end Cert.Pre_finite

end
-- ==== Proof.Equation.lean ====
module

public import proofs.«01_k».proof.Proof.Algebra
public import proofs.«01_k».proof.Proof.RefVal
public import proofs.«01_k».proof.Proof.PreFin

@[expose] public section

set_option maxRecDepth 16384

noncomputable section

namespace Cert.Proof

open Idealize.ShloMosaic Idealize.ShloMosaic.ValueIdx Cert.Plain

/-- Where the states, the support and the weights are reals, the kernel's result is the reference's. -/
theorem Gv_eq (m : (ℓ : Loc Cert.KernelIdeal.nD Cert.KernelIdeal.τ Cert.KernelIdeal.sig) → Buf (Elt Ideal) ℓ)
    (c : Dev Cert.KernelIdeal.nD) (y : Y) (l : L) (w : W) (b : B)
    (ey : y = m ((c.tc : Thread Cert.KernelIdeal.nD Cert.KernelIdeal.τ).loc Cert.KernelIdeal.main_arg1))
    (el : l = m ((c.tc : Thread Cert.KernelIdeal.nD Cert.KernelIdeal.τ).loc Cert.KernelIdeal.main_arg2))
    (ew : w = m ((c.tc : Thread Cert.KernelIdeal.nD Cert.KernelIdeal.τ).loc Cert.KernelIdeal.main_arg3))
    (eb : b = m ((c.tc : Thread Cert.KernelIdeal.nD Cert.KernelIdeal.τ).loc Cert.KernelIdeal.main_arg4))
    (h : (∀ i, y i = ((y i).toReal : EReal)) ∧ (∀ i, l i = ((l i).toReal : EReal)) ∧ (∀ i, w i = ((w i).toReal : EReal))) :
    (Cert.KernelIdeal.Val.Gv m c : Y) = Cert.ReferenceIdeal.Read.val_main_v21 (F := Ideal) y l w b := by
  funext i
  have hi : i = ix2 (i 0) (col (nodeOf (i 1)) (featOf (i 1))) := (eq_ix2 i).trans (congrArg (ix2 (i 0)) (col_of (i 1)).symm)
  rw [hi]
  refine (Cert.KernelIdeal.Val.Gv_at m c (i 0) (nodeOf (i 1)) (featOf (i 1))).trans ?_
  refine Eq.trans ?_ (Cert.ReferenceIdeal.Val.out_at y l w b (i 0) (nodeOf (i 1)) (featOf (i 1))).symm
  rw [← ey, ← el, ← ew, ← eb]
  exact Cert.KernelIdeal.Val.kout_eq_out y l w b h.1 h.2.1 h.2.2 _ _ _

end Cert.Proof

end
-- ==== Proof.lean ====
/- The certificate: the kernel, its ideal form and the reference run, leave their arguments and end with every counter at
   zero; the ideal form is the kernel's own text; and, where the states, the support and the weights are finite, kernel and
   reference end with equal results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.FrameVal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and ends with every counter at zero. -/
theorem quiescent_reference : @Cert.quiescent_ReferenceIdeal Cert.ReferenceIdeal.Gen.facts := fun m g _ =>
  (θ_run _ _ _).mono (fun r h => ⟨fun c => (h c).2, sem_eq_zero_of_no_sems rfl _⟩) (Cert.ReferenceIdeal.Value.run m g)

/-- Over the extended reals and under the precondition the kernel and the reference end with equal results. -/
theorem algebraic : @Cert.algebraic_KernelIdeal_ReferenceIdeal_pre_finite Cert.KernelIdeal.Gen.facts Cert.ReferenceIdeal.Gen.facts
    Cert.Pre_finite.facts := fun m g m' g' hpre hargs =>
  ⟨fun c => Cert.KernelIdeal.Val.Gv m c, Cert.KernelIdeal.Val.run m g,
    (θ_run _ _ _).mono (fun r h c => ⟨(h c).1.trans (by
      obtain ⟨_, e1, e2, e3, e4⟩ := hargs c
      have hf := @Cert.Pre_finite.finite_of Cert.Pre_finite.facts _ _ _ _ _ (hpre c)
      refine (Cert.ReferenceIdeal.Read.val_main_v21_eq _ _ _ _).trans ?_
      rw [e1, e2, e3, e4]
      exact (Gv_eq m c _ _ _ _ rfl rfl rfl rfl hf).symm), (h c).2⟩) (Cert.ReferenceIdeal.Value.run m' g')⟩

/-- Every claim of the certificate. -/
theorem claim : Cert.Claim := ⟨Cert.Kernel.Gen.facts, Cert.KernelIdeal.Gen.facts, Cert.ReferenceIdeal.Gen.facts, Cert.Pre_finite.facts,
  fun m g _ => Cert.Kernel.Gen.frame m g,
  fun m g _ => Cert.KernelIdeal.Gen.frame m g,
  fun m g _ => Cert.KernelIdeal.Gen.frame m g,
  quiescent_reference,
  fun m g _ => quiescent_reference m g trivial,
  trivial,
  algebraic⟩

end Cert.Proof

end
